-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_mid [hPre_finite_mid : Cert.Pre_finite_mid.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Nat (m : (ℓ : Loc Cert.Nat.nD Cert.Nat.τ Cert.Nat.sig) → Buf (Elt Bits) ℓ) : Prop :=
  True

def Pre_NatIdeal (m : (ℓ : Loc Cert.NatIdeal.nD Cert.NatIdeal.τ Cert.NatIdeal.sig) → Buf (Elt Ideal) ℓ) : Prop :=
  True

def Pre_NatReferenceIdeal (m : (ℓ : Loc Cert.NatReferenceIdeal.nD Cert.NatReferenceIdeal.τ Cert.NatReferenceIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaReferenceIdeal (m : (ℓ : Loc Cert.GqaReferenceIdeal.nD Cert.GqaReferenceIdeal.τ Cert.GqaReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite_first [hPre_finite_first : Cert.Pre_finite_first.Facts] (m : (ℓ : Loc Cert.FirstIdeal.nD Cert.FirstIdeal.τ Cert.FirstIdeal.sig) → Buf (Elt Ideal) ℓ) : Prop :=
  ∀ c : Dev Cert.FirstIdeal.nD,
    (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7)) (m ((c.tc : Thread Cert.FirstIdeal.nD Cert.FirstIdeal.τ).loc Cert.FirstIdeal.main_arg8)) (m ((c.tc : Thread Cert.FirstIdeal.nD Cert.FirstIdeal.τ).loc Cert.FirstIdeal.main_arg9)) (m ((c.tc : Thread Cert.FirstIdeal.nD Cert.FirstIdeal.τ).loc Cert.FirstIdeal.main_arg10)) (m ((c.tc : Thread Cert.FirstIdeal.nD Cert.FirstIdeal.τ).loc Cert.FirstIdeal.main_arg11)) (m ((c.tc : Thread Cert.FirstIdeal.nD Cert.FirstIdeal.τ).loc Cert.FirstIdeal.main_arg12)) (m ((c.tc : Thread Cert.FirstIdeal.nD Cert.FirstIdeal.τ).loc Cert.FirstIdeal.main_arg13)) (m ((c.tc : Thread Cert.FirstIdeal.nD Cert.FirstIdeal.τ).loc Cert.FirstIdeal.main_arg14)) (m ((c.tc : Thread Cert.FirstIdeal.nD Cert.FirstIdeal.τ).loc Cert.FirstIdeal.main_arg15)) (m ((c.tc : Thread Cert.FirstIdeal.nD Cert.FirstIdeal.τ).loc Cert.FirstIdeal.main_arg16))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_finite_first [hPre_finite_first : Cert.Pre_finite_first.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_finite_first.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8)) (m ((c.tc : Thread Cert.FirstReferenceIdeal.nD Cert.FirstReferenceIdeal.τ).loc Cert.FirstReferenceIdeal.main_arg9)) (m ((c.tc : Thread Cert.FirstReferenceIdeal.nD Cert.FirstReferenceIdeal.τ).loc Cert.FirstReferenceIdeal.main_arg10)) (m ((c.tc : Thread Cert.FirstReferenceIdeal.nD Cert.FirstReferenceIdeal.τ).loc Cert.FirstReferenceIdeal.main_arg11)) (m ((c.tc : Thread Cert.FirstReferenceIdeal.nD Cert.FirstReferenceIdeal.τ).loc Cert.FirstReferenceIdeal.main_arg12)) (m ((c.tc : Thread Cert.FirstReferenceIdeal.nD Cert.FirstReferenceIdeal.τ).loc Cert.FirstReferenceIdeal.main_arg13)) (m ((c.tc : Thread Cert.FirstReferenceIdeal.nD Cert.FirstReferenceIdeal.τ).loc Cert.FirstReferenceIdeal.main_arg14)) (m ((c.tc : Thread Cert.FirstReferenceIdeal.nD Cert.FirstReferenceIdeal.τ).loc Cert.FirstReferenceIdeal.main_arg15)) (m ((c.tc : Thread Cert.FirstReferenceIdeal.nD Cert.FirstReferenceIdeal.τ).loc Cert.FirstReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_MidReferenceIdeal_pre_finite_mid [hMidReferenceIdeal : Cert.MidReferenceIdeal.Facts] [hPre_finite_mid : Cert.Pre_finite_mid.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_mid m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Nat [hNat : Cert.Nat.Facts] : Prop :=
  ∀ (m : (ℓ : Loc Cert.Nat.nD Cert.Nat.τ Cert.Nat.sig) → Buf (Elt Bits) ℓ) (g : Dev Cert.Nat.nD → PrngReg), Pre_Nat m →
    θ_run (Cert.Nat.defs (F := Bits)) (onTc (τ := Cert.Nat.τ) (Cert.Nat.main (F := Bits))) ⟨m, fun _ => 0, g⟩ (fun r => (∀ c : Dev Cert.Nat.nD,
      r.2.mem ((c.tc : Thread Cert.Nat.nD Cert.Nat.τ).loc Cert.Nat.main_arg0) = m ((c.tc : Thread Cert.Nat.nD Cert.Nat.τ).loc Cert.Nat.main_arg0)
      ∧ r.2.mem ((c.tc : Thread Cert.Nat.nD Cert.Nat.τ).loc Cert.Nat.main_arg1) = m ((c.tc : Thread Cert.Nat.nD Cert.Nat.τ).loc Cert.Nat.main_arg1)
      ∧ r.2.mem ((c.tc : Thread Cert.Nat.nD Cert.Nat.τ).loc Cert.Nat.main_arg2) = m ((c.tc : Thread Cert.Nat.nD Cert.Nat.τ).loc Cert.Nat.main_arg2)
      ∧ r.2.mem ((c.tc : Thread Cert.Nat.nD Cert.Nat.τ).loc Cert.Nat.main_arg3) = m ((c.tc : Thread Cert.Nat.nD Cert.Nat.τ).loc Cert.Nat.main_arg3)
      ∧ r.2.mem ((c.tc : Thread Cert.Nat.nD Cert.Nat.τ).loc Cert.Nat.main_arg4) = m ((c.tc : Thread Cert.Nat.nD Cert.Nat.τ).loc Cert.Nat.main_arg4)
      ∧ r.2.mem ((c.tc : Thread Cert.Nat.nD Cert.Nat.τ).loc Cert.Nat.main_arg5) = m ((c.tc : Thread Cert.Nat.nD Cert.Nat.τ).loc Cert.Nat.main_arg5)
      ∧ r.2.mem ((c.tc : Thread Cert.Nat.nD Cert.Nat.τ).loc Cert.Nat.main_arg6) = m ((c.tc : Thread Cert.Nat.nD Cert.Nat.τ).loc Cert.Nat.main_arg6))
      ∧ r.2.sem = fun _ => 0)

def quiescent_NatIdeal [hNatIdeal : Cert.NatIdeal.Facts] : Prop :=
  ∀ (m : (ℓ : Loc Cert.NatIdeal.nD Cert.NatIdeal.τ Cert.NatIdeal.sig) → Buf (Elt Ideal) ℓ) (g : Dev Cert.NatIdeal.nD → PrngReg), Pre_NatIdeal m →
    θ_run (Cert.NatIdeal.defs (F := Ideal)) (onTc (τ := Cert.NatIdeal.τ) (Cert.NatIdeal.main (F := Ideal))) ⟨m, fun _ => 0, g⟩ (fun r => (∀ c : Dev Cert.NatIdeal.nD,
      r.2.mem ((c.tc : Thread Cert.NatIdeal.nD Cert.NatIdeal.τ).loc Cert.NatIdeal.main_arg0) = m ((c.tc : Thread Cert.NatIdeal.nD Cert.NatIdeal.τ).loc Cert.NatIdeal.main_arg0)
      ∧ r.2.mem ((c.tc : Thread Cert.NatIdeal.nD Cert.NatIdeal.τ).loc Cert.NatIdeal.main_arg1) = m ((c.tc : Thread Cert.NatIdeal.nD Cert.NatIdeal.τ).loc Cert.NatIdeal.main_arg1)
      ∧ r.2.mem ((c.tc : Thread Cert.NatIdeal.nD Cert.NatIdeal.τ).loc Cert.NatIdeal.main_arg2) = m ((c.tc : Thread Cert.NatIdeal.nD Cert.NatIdeal.τ).loc Cert.NatIdeal.main_arg2)
      ∧ r.2.mem ((c.tc : Thread Cert.NatIdeal.nD Cert.NatIdeal.τ).loc Cert.NatIdeal.main_arg3) = m ((c.tc : Thread Cert.NatIdeal.nD Cert.NatIdeal.τ).loc Cert.NatIdeal.main_arg3)
      ∧ r.2.mem ((c.tc : Thread Cert.NatIdeal.nD Cert.NatIdeal.τ).loc Cert.NatIdeal.main_arg4) = m ((c.tc : Thread Cert.NatIdeal.nD Cert.NatIdeal.τ).loc Cert.NatIdeal.main_arg4)
      ∧ r.2.mem ((c.tc : Thread Cert.NatIdeal.nD Cert.NatIdeal.τ).loc Cert.NatIdeal.main_arg5) = m ((c.tc : Thread Cert.NatIdeal.nD Cert.NatIdeal.τ).loc Cert.NatIdeal.main_arg5)
      ∧ r.2.mem ((c.tc : Thread Cert.NatIdeal.nD Cert.NatIdeal.τ).loc Cert.NatIdeal.main_arg6) = m ((c.tc : Thread Cert.NatIdeal.nD Cert.NatIdeal.τ).loc Cert.NatIdeal.main_arg6))
      ∧ r.2.sem = fun _ => 0)

def quiescent_NatReferenceIdeal [hNatReferenceIdeal : Cert.NatReferenceIdeal.Facts] : Prop :=
  ∀ (m : (ℓ : Loc Cert.NatReferenceIdeal.nD Cert.NatReferenceIdeal.τ Cert.NatReferenceIdeal.sig) → Buf (Elt Ideal) ℓ) (g : Dev Cert.NatReferenceIdeal.nD → PrngReg), Pre_NatReferenceIdeal m →
    θ_run (Cert.NatReferenceIdeal.defs (F := Ideal)) (onTc (τ := Cert.NatReferenceIdeal.τ) (Cert.NatReferenceIdeal.main (F := Ideal))) ⟨m, fun _ => 0, g⟩ (fun r => (∀ c : Dev Cert.NatReferenceIdeal.nD,
      r.2.mem ((c.tc : Thread Cert.NatReferenceIdeal.nD Cert.NatReferenceIdeal.τ).loc Cert.NatReferenceIdeal.main_arg0) = m ((c.tc : Thread Cert.NatReferenceIdeal.nD Cert.NatReferenceIdeal.τ).loc Cert.NatReferenceIdeal.main_arg0)
      ∧ r.2.mem ((c.tc : Thread Cert.NatReferenceIdeal.nD Cert.NatReferenceIdeal.τ).loc Cert.NatReferenceIdeal.main_arg1) = m ((c.tc : Thread Cert.NatReferenceIdeal.nD Cert.NatReferenceIdeal.τ).loc Cert.NatReferenceIdeal.main_arg1)
      ∧ r.2.mem ((c.tc : Thread Cert.NatReferenceIdeal.nD Cert.NatReferenceIdeal.τ).loc Cert.NatReferenceIdeal.main_arg2) = m ((c.tc : Thread Cert.NatReferenceIdeal.nD Cert.NatReferenceIdeal.τ).loc Cert.NatReferenceIdeal.main_arg2)
      ∧ r.2.mem ((c.tc : Thread Cert.NatReferenceIdeal.nD Cert.NatReferenceIdeal.τ).loc Cert.NatReferenceIdeal.main_arg3) = m ((c.tc : Thread Cert.NatReferenceIdeal.nD Cert.NatReferenceIdeal.τ).loc Cert.NatReferenceIdeal.main_arg3)
      ∧ r.2.mem ((c.tc : Thread Cert.NatReferenceIdeal.nD Cert.NatReferenceIdeal.τ).loc Cert.NatReferenceIdeal.main_arg4) = m ((c.tc : Thread Cert.NatReferenceIdeal.nD Cert.NatReferenceIdeal.τ).loc Cert.NatReferenceIdeal.main_arg4)
      ∧ r.2.mem ((c.tc : Thread Cert.NatReferenceIdeal.nD Cert.NatReferenceIdeal.τ).loc Cert.NatReferenceIdeal.main_arg5) = m ((c.tc : Thread Cert.NatReferenceIdeal.nD Cert.NatReferenceIdeal.τ).loc Cert.NatReferenceIdeal.main_arg5)
      ∧ r.2.mem ((c.tc : Thread Cert.NatReferenceIdeal.nD Cert.NatReferenceIdeal.τ).loc Cert.NatReferenceIdeal.main_arg6) = m ((c.tc : Thread Cert.NatReferenceIdeal.nD Cert.NatReferenceIdeal.τ).loc Cert.NatReferenceIdeal.main_arg6))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5)
      ∧ r.2.mem ((c.tc : Thread Cert.Gqa.nD Cert.Gqa.τ).loc Cert.Gqa.main_arg6) = m ((c.tc : Thread Cert.Gqa.nD Cert.Gqa.τ).loc Cert.Gqa.main_arg6)
      ∧ r.2.mem ((c.tc : Thread Cert.Gqa.nD Cert.Gqa.τ).loc Cert.Gqa.main_arg7) = m ((c.tc : Thread Cert.Gqa.nD Cert.Gqa.τ).loc Cert.Gqa.main_arg7)
      ∧ r.2.mem ((c.tc : Thread Cert.Gqa.nD Cert.Gqa.τ).loc Cert.Gqa.main_arg8) = m ((c.tc : Thread Cert.Gqa.nD Cert.Gqa.τ).loc Cert.Gqa.main_arg8))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
      ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
      ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7)
      ∧ r.2.mem ((c.tc : Thread Cert.GqaIdeal.nD Cert.GqaIdeal.τ).loc Cert.GqaIdeal.main_arg8) = m ((c.tc : Thread Cert.GqaIdeal.nD Cert.GqaIdeal.τ).loc Cert.GqaIdeal.main_arg8))
      ∧ r.2.sem = fun _ => 0)

def quiescent_GqaReferenceIdeal [hGqaReferenceIdeal : Cert.GqaReferenceIdeal.Facts] : Prop :=
  ∀ (m : (ℓ : Loc Cert.GqaReferenceIdeal.nD Cert.GqaReferenceIdeal.τ Cert.GqaReferenceIdeal.sig) → Buf (Elt Ideal) ℓ) (g : Dev Cert.GqaReferenceIdeal.nD → PrngReg), Pre_GqaReferenceIdeal m →
    θ_run (Cert.GqaReferenceIdeal.defs (F := Ideal)) (onTc (τ := Cert.GqaReferenceIdeal.τ) (Cert.GqaReferenceIdeal.main (F := Ideal))) ⟨m, fun _ => 0, g⟩ (fun r => (∀ c : Dev Cert.GqaReferenceIdeal.nD,
      r.2.mem ((c.tc : Thread Cert.GqaReferenceIdeal.nD Cert.GqaReferenceIdeal.τ).loc Cert.GqaReferenceIdeal.main_arg0) = m ((c.tc : Thread Cert.GqaReferenceIdeal.nD Cert.GqaReferenceIdeal.τ).loc Cert.GqaReferenceIdeal.main_arg0)
      ∧ r.2.mem ((c.tc : Thread Cert.GqaReferenceIdeal.nD Cert.GqaReferenceIdeal.τ).loc Cert.GqaReferenceIdeal.main_arg1) = m ((c.tc : Thread Cert.GqaReferenceIdeal.nD Cert.GqaReferenceIdeal.τ).loc Cert.GqaReferenceIdeal.main_arg1)
      ∧ r.2.mem ((c.tc : Thread Cert.GqaReferenceIdeal.nD Cert.GqaReferenceIdeal.τ).loc Cert.GqaReferenceIdeal.main_arg2) = m ((c.tc : Thread Cert.GqaReferenceIdeal.nD Cert.GqaReferenceIdeal.τ).loc Cert.GqaReferenceIdeal.main_arg2)
      ∧ r.2.mem ((c.tc : Thread Cert.GqaReferenceIdeal.nD Cert.GqaReferenceIdeal.τ).loc Cert.GqaReferenceIdeal.main_arg3) = m ((c.tc : Thread Cert.GqaReferenceIdeal.nD Cert.GqaReferenceIdeal.τ).loc Cert.GqaReferenceIdeal.main_arg3)
      ∧ r.2.mem ((c.tc : Thread Cert.GqaReferenceIdeal.nD Cert.GqaReferenceIdeal.τ).loc Cert.GqaReferenceIdeal.main_arg4) = m ((c.tc : Thread Cert.GqaReferenceIdeal.nD Cert.GqaReferenceIdeal.τ).loc Cert.GqaReferenceIdeal.main_arg4)
      ∧ r.2.mem ((c.tc : Thread Cert.GqaReferenceIdeal.nD Cert.GqaReferenceIdeal.τ).loc Cert.GqaReferenceIdeal.main_arg5) = m ((c.tc : Thread Cert.GqaReferenceIdeal.nD Cert.GqaReferenceIdeal.τ).loc Cert.GqaReferenceIdeal.main_arg5)
      ∧ r.2.mem ((c.tc : Thread Cert.GqaReferenceIdeal.nD Cert.GqaReferenceIdeal.τ).loc Cert.GqaReferenceIdeal.main_arg6) = m ((c.tc : Thread Cert.GqaReferenceIdeal.nD Cert.GqaReferenceIdeal.τ).loc Cert.GqaReferenceIdeal.main_arg6)
      ∧ r.2.mem ((c.tc : Thread Cert.GqaReferenceIdeal.nD Cert.GqaReferenceIdeal.τ).loc Cert.GqaReferenceIdeal.main_arg7) = m ((c.tc : Thread Cert.GqaReferenceIdeal.nD Cert.GqaReferenceIdeal.τ).loc Cert.GqaReferenceIdeal.main_arg7)
      ∧ r.2.mem ((c.tc : Thread Cert.GqaReferenceIdeal.nD Cert.GqaReferenceIdeal.τ).loc Cert.GqaReferenceIdeal.main_arg8) = m ((c.tc : Thread Cert.GqaReferenceIdeal.nD Cert.GqaReferenceIdeal.τ).loc Cert.GqaReferenceIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11)
      ∧ r.2.mem ((c.tc : Thread Cert.First.nD Cert.First.τ).loc Cert.First.main_arg12) = m ((c.tc : Thread Cert.First.nD Cert.First.τ).loc Cert.First.main_arg12)
      ∧ r.2.mem ((c.tc : Thread Cert.First.nD Cert.First.τ).loc Cert.First.main_arg13) = m ((c.tc : Thread Cert.First.nD Cert.First.τ).loc Cert.First.main_arg13)
      ∧ r.2.mem ((c.tc : Thread Cert.First.nD Cert.First.τ).loc Cert.First.main_arg14) = m ((c.tc : Thread Cert.First.nD Cert.First.τ).loc Cert.First.main_arg14)
      ∧ r.2.mem ((c.tc : Thread Cert.First.nD Cert.First.τ).loc Cert.First.main_arg15) = m ((c.tc : Thread Cert.First.nD Cert.First.τ).loc Cert.First.main_arg15)
      ∧ r.2.mem ((c.tc : Thread Cert.First.nD Cert.First.τ).loc Cert.First.main_arg16) = m ((c.tc : Thread Cert.First.nD Cert.First.τ).loc Cert.First.main_arg16))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
      ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
      ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
      ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16))
      ∧ r.2.sem = fun _ => 0)

def quiescent_FirstIdeal_pre_finite_first [hFirstIdeal : Cert.FirstIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite_first m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
      ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
      ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
      ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12)
      ∧ r.2.mem ((c.tc : Thread Cert.FirstReferenceIdeal.nD Cert.FirstReferenceIdeal.τ).loc Cert.FirstReferenceIdeal.main_arg13) = m ((c.tc : Thread Cert.FirstReferenceIdeal.nD Cert.FirstReferenceIdeal.τ).loc Cert.FirstReferenceIdeal.main_arg13)
      ∧ r.2.mem ((c.tc : Thread Cert.FirstReferenceIdeal.nD Cert.FirstReferenceIdeal.τ).loc Cert.FirstReferenceIdeal.main_arg14) = m ((c.tc : Thread Cert.FirstReferenceIdeal.nD Cert.FirstReferenceIdeal.τ).loc Cert.FirstReferenceIdeal.main_arg14)
      ∧ r.2.mem ((c.tc : Thread Cert.FirstReferenceIdeal.nD Cert.FirstReferenceIdeal.τ).loc Cert.FirstReferenceIdeal.main_arg15) = m ((c.tc : Thread Cert.FirstReferenceIdeal.nD Cert.FirstReferenceIdeal.τ).loc Cert.FirstReferenceIdeal.main_arg15)
      ∧ r.2.mem ((c.tc : Thread Cert.FirstReferenceIdeal.nD Cert.FirstReferenceIdeal.τ).loc Cert.FirstReferenceIdeal.main_arg16) = m ((c.tc : Thread Cert.FirstReferenceIdeal.nD Cert.FirstReferenceIdeal.τ).loc Cert.FirstReferenceIdeal.main_arg16))
      ∧ r.2.sem = fun _ => 0)

def quiescent_FirstReferenceIdeal_pre_finite_first [hFirstReferenceIdeal : Cert.FirstReferenceIdeal.Facts] [hPre_finite_first : Cert.Pre_finite_first.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_finite_first m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12)
      ∧ r.2.mem ((c.tc : Thread Cert.FirstReferenceIdeal.nD Cert.FirstReferenceIdeal.τ).loc Cert.FirstReferenceIdeal.main_arg13) = m ((c.tc : Thread Cert.FirstReferenceIdeal.nD Cert.FirstReferenceIdeal.τ).loc Cert.FirstReferenceIdeal.main_arg13)
      ∧ r.2.mem ((c.tc : Thread Cert.FirstReferenceIdeal.nD Cert.FirstReferenceIdeal.τ).loc Cert.FirstReferenceIdeal.main_arg14) = m ((c.tc : Thread Cert.FirstReferenceIdeal.nD Cert.FirstReferenceIdeal.τ).loc Cert.FirstReferenceIdeal.main_arg14)
      ∧ r.2.mem ((c.tc : Thread Cert.FirstReferenceIdeal.nD Cert.FirstReferenceIdeal.τ).loc Cert.FirstReferenceIdeal.main_arg15) = m ((c.tc : Thread Cert.FirstReferenceIdeal.nD Cert.FirstReferenceIdeal.τ).loc Cert.FirstReferenceIdeal.main_arg15)
      ∧ r.2.mem ((c.tc : Thread Cert.FirstReferenceIdeal.nD Cert.FirstReferenceIdeal.τ).loc Cert.FirstReferenceIdeal.main_arg16) = m ((c.tc : Thread Cert.FirstReferenceIdeal.nD Cert.FirstReferenceIdeal.τ).loc Cert.FirstReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mid_MidIdeal : Prop :=
  True

def algebraic_MidIdeal_MidReferenceIdeal_pre_finite_mid [hMidIdeal : Cert.MidIdeal.Facts] [hMidReferenceIdeal : Cert.MidReferenceIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_mid m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v14)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v14) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v36) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v9_0)) (v1 : (c : Dev Cert.OutIdeal.nD) → Buf (Elt Ideal) ((c.tc : Thread Cert.OutIdeal.nD Cert.OutIdeal.τ).loc Cert.OutIdeal.main_v9_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9_0) = v0 c
          ∧ r.2.mem ((c.tc : Thread Cert.OutIdeal.nD Cert.OutIdeal.τ).loc Cert.OutIdeal.main_v9_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v66) = v0 c
          ∧ r.2.mem ((c.tc : Thread Cert.OutReferenceIdeal.nD Cert.OutReferenceIdeal.τ).loc Cert.OutReferenceIdeal.main_v70) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Nat_NatIdeal : Prop :=
  True

def algebraic_NatIdeal_NatReferenceIdeal [hNatIdeal : Cert.NatIdeal.Facts] [hNatReferenceIdeal : Cert.NatReferenceIdeal.Facts] : Prop :=
  ∀ (m : (ℓ : Loc Cert.NatIdeal.nD Cert.NatIdeal.τ Cert.NatIdeal.sig) → Buf (Elt Ideal) ℓ) (g : Dev Cert.NatIdeal.nD → PrngReg)
    (m' : (ℓ : Loc Cert.NatReferenceIdeal.nD Cert.NatReferenceIdeal.τ Cert.NatReferenceIdeal.sig) → Buf (Elt Ideal) ℓ) (g' : Dev Cert.NatReferenceIdeal.nD → PrngReg), Pre_NatIdeal m →
    (∀ c : Dev Cert.NatIdeal.nD,
      m' ((c.tc : Thread Cert.NatReferenceIdeal.nD Cert.NatReferenceIdeal.τ).loc Cert.NatReferenceIdeal.main_arg0) = m ((c.tc : Thread Cert.NatIdeal.nD Cert.NatIdeal.τ).loc Cert.NatIdeal.main_arg0)
      ∧ m' ((c.tc : Thread Cert.NatReferenceIdeal.nD Cert.NatReferenceIdeal.τ).loc Cert.NatReferenceIdeal.main_arg1) = m ((c.tc : Thread Cert.NatIdeal.nD Cert.NatIdeal.τ).loc Cert.NatIdeal.main_arg1)
      ∧ m' ((c.tc : Thread Cert.NatReferenceIdeal.nD Cert.NatReferenceIdeal.τ).loc Cert.NatReferenceIdeal.main_arg2) = m ((c.tc : Thread Cert.NatIdeal.nD Cert.NatIdeal.τ).loc Cert.NatIdeal.main_arg2)
      ∧ m' ((c.tc : Thread Cert.NatReferenceIdeal.nD Cert.NatReferenceIdeal.τ).loc Cert.NatReferenceIdeal.main_arg3) = m ((c.tc : Thread Cert.NatIdeal.nD Cert.NatIdeal.τ).loc Cert.NatIdeal.main_arg3)
      ∧ m' ((c.tc : Thread Cert.NatReferenceIdeal.nD Cert.NatReferenceIdeal.τ).loc Cert.NatReferenceIdeal.main_arg4) = m ((c.tc : Thread Cert.NatIdeal.nD Cert.NatIdeal.τ).loc Cert.NatIdeal.main_arg4)
      ∧ m' ((c.tc : Thread Cert.NatReferenceIdeal.nD Cert.NatReferenceIdeal.τ).loc Cert.NatReferenceIdeal.main_arg5) = m ((c.tc : Thread Cert.NatIdeal.nD Cert.NatIdeal.τ).loc Cert.NatIdeal.main_arg5)
      ∧ m' ((c.tc : Thread Cert.NatReferenceIdeal.nD Cert.NatReferenceIdeal.τ).loc Cert.NatReferenceIdeal.main_arg6) = m ((c.tc : Thread Cert.NatIdeal.nD Cert.NatIdeal.τ).loc Cert.NatIdeal.main_arg6)) →
    ∃ (v0 : (c : Dev Cert.NatIdeal.nD) → Buf (Elt Ideal) ((c.tc : Thread Cert.NatIdeal.nD Cert.NatIdeal.τ).loc Cert.NatIdeal.main_v9)),
      θ_run (Cert.NatIdeal.defs (F := Ideal)) (onTc (τ := Cert.NatIdeal.τ) (Cert.NatIdeal.main (F := Ideal))) ⟨m, fun _ => 0, g⟩ (fun r => ∀ c : Dev Cert.NatIdeal.nD,
          r.2.mem ((c.tc : Thread Cert.NatIdeal.nD Cert.NatIdeal.τ).loc Cert.NatIdeal.main_v9) = v0 c
          ∧ r.2.mem ((c.tc : Thread Cert.NatIdeal.nD Cert.NatIdeal.τ).loc Cert.NatIdeal.main_arg0) = m ((c.tc : Thread Cert.NatIdeal.nD Cert.NatIdeal.τ).loc Cert.NatIdeal.main_arg0)
          ∧ r.2.mem ((c.tc : Thread Cert.NatIdeal.nD Cert.NatIdeal.τ).loc Cert.NatIdeal.main_arg1) = m ((c.tc : Thread Cert.NatIdeal.nD Cert.NatIdeal.τ).loc Cert.NatIdeal.main_arg1)
          ∧ r.2.mem ((c.tc : Thread Cert.NatIdeal.nD Cert.NatIdeal.τ).loc Cert.NatIdeal.main_arg2) = m ((c.tc : Thread Cert.NatIdeal.nD Cert.NatIdeal.τ).loc Cert.NatIdeal.main_arg2)
          ∧ r.2.mem ((c.tc : Thread Cert.NatIdeal.nD Cert.NatIdeal.τ).loc Cert.NatIdeal.main_arg3) = m ((c.tc : Thread Cert.NatIdeal.nD Cert.NatIdeal.τ).loc Cert.NatIdeal.main_arg3)
          ∧ r.2.mem ((c.tc : Thread Cert.NatIdeal.nD Cert.NatIdeal.τ).loc Cert.NatIdeal.main_arg4) = m ((c.tc : Thread Cert.NatIdeal.nD Cert.NatIdeal.τ).loc Cert.NatIdeal.main_arg4)
          ∧ r.2.mem ((c.tc : Thread Cert.NatIdeal.nD Cert.NatIdeal.τ).loc Cert.NatIdeal.main_arg5) = m ((c.tc : Thread Cert.NatIdeal.nD Cert.NatIdeal.τ).loc Cert.NatIdeal.main_arg5)
          ∧ r.2.mem ((c.tc : Thread Cert.NatIdeal.nD Cert.NatIdeal.τ).loc Cert.NatIdeal.main_arg6) = m ((c.tc : Thread Cert.NatIdeal.nD Cert.NatIdeal.τ).loc Cert.NatIdeal.main_arg6))
      ∧ θ_run (Cert.NatReferenceIdeal.defs (F := Ideal)) (onTc (τ := Cert.NatReferenceIdeal.τ) (Cert.NatReferenceIdeal.main (F := Ideal))) ⟨m', fun _ => 0, g'⟩ (fun r => ∀ c : Dev Cert.NatReferenceIdeal.nD,
          r.2.mem ((c.tc : Thread Cert.NatReferenceIdeal.nD Cert.NatReferenceIdeal.τ).loc Cert.NatReferenceIdeal.main_v71) = v0 c
          ∧ r.2.mem ((c.tc : Thread Cert.NatReferenceIdeal.nD Cert.NatReferenceIdeal.τ).loc Cert.NatReferenceIdeal.main_arg0) = m' ((c.tc : Thread Cert.NatReferenceIdeal.nD Cert.NatReferenceIdeal.τ).loc Cert.NatReferenceIdeal.main_arg0)
          ∧ r.2.mem ((c.tc : Thread Cert.NatReferenceIdeal.nD Cert.NatReferenceIdeal.τ).loc Cert.NatReferenceIdeal.main_arg1) = m' ((c.tc : Thread Cert.NatReferenceIdeal.nD Cert.NatReferenceIdeal.τ).loc Cert.NatReferenceIdeal.main_arg1)
          ∧ r.2.mem ((c.tc : Thread Cert.NatReferenceIdeal.nD Cert.NatReferenceIdeal.τ).loc Cert.NatReferenceIdeal.main_arg2) = m' ((c.tc : Thread Cert.NatReferenceIdeal.nD Cert.NatReferenceIdeal.τ).loc Cert.NatReferenceIdeal.main_arg2)
          ∧ r.2.mem ((c.tc : Thread Cert.NatReferenceIdeal.nD Cert.NatReferenceIdeal.τ).loc Cert.NatReferenceIdeal.main_arg3) = m' ((c.tc : Thread Cert.NatReferenceIdeal.nD Cert.NatReferenceIdeal.τ).loc Cert.NatReferenceIdeal.main_arg3)
          ∧ r.2.mem ((c.tc : Thread Cert.NatReferenceIdeal.nD Cert.NatReferenceIdeal.τ).loc Cert.NatReferenceIdeal.main_arg4) = m' ((c.tc : Thread Cert.NatReferenceIdeal.nD Cert.NatReferenceIdeal.τ).loc Cert.NatReferenceIdeal.main_arg4)
          ∧ r.2.mem ((c.tc : Thread Cert.NatReferenceIdeal.nD Cert.NatReferenceIdeal.τ).loc Cert.NatReferenceIdeal.main_arg5) = m' ((c.tc : Thread Cert.NatReferenceIdeal.nD Cert.NatReferenceIdeal.τ).loc Cert.NatReferenceIdeal.main_arg5)
          ∧ r.2.mem ((c.tc : Thread Cert.NatReferenceIdeal.nD Cert.NatReferenceIdeal.τ).loc Cert.NatReferenceIdeal.main_arg6) = m' ((c.tc : Thread Cert.NatReferenceIdeal.nD Cert.NatReferenceIdeal.τ).loc Cert.NatReferenceIdeal.main_arg6))

def preserves_Gqa_GqaIdeal : Prop :=
  True

def algebraic_GqaIdeal_GqaReferenceIdeal [hGqaIdeal : Cert.GqaIdeal.Facts] [hGqaReferenceIdeal : Cert.GqaReferenceIdeal.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaReferenceIdeal.nD Cert.GqaReferenceIdeal.τ Cert.GqaReferenceIdeal.sig) → Buf (Elt Ideal) ℓ) (g' : Dev Cert.GqaReferenceIdeal.nD → PrngReg), Pre_GqaIdeal m →
    (∀ c : Dev Cert.GqaIdeal.nD,
      m' ((c.tc : Thread Cert.GqaReferenceIdeal.nD Cert.GqaReferenceIdeal.τ).loc Cert.GqaReferenceIdeal.main_arg0) = m ((c.tc : Thread Cert.GqaIdeal.nD Cert.GqaIdeal.τ).loc Cert.GqaIdeal.main_arg0)
      ∧ m' ((c.tc : Thread Cert.GqaReferenceIdeal.nD Cert.GqaReferenceIdeal.τ).loc Cert.GqaReferenceIdeal.main_arg1) = m ((c.tc : Thread Cert.GqaIdeal.nD Cert.GqaIdeal.τ).loc Cert.GqaIdeal.main_arg1)
      ∧ m' ((c.tc : Thread Cert.GqaReferenceIdeal.nD Cert.GqaReferenceIdeal.τ).loc Cert.GqaReferenceIdeal.main_arg2) = m ((c.tc : Thread Cert.GqaIdeal.nD Cert.GqaIdeal.τ).loc Cert.GqaIdeal.main_arg2)
      ∧ m' ((c.tc : Thread Cert.GqaReferenceIdeal.nD Cert.GqaReferenceIdeal.τ).loc Cert.GqaReferenceIdeal.main_arg3) = m ((c.tc : Thread Cert.GqaIdeal.nD Cert.GqaIdeal.τ).loc Cert.GqaIdeal.main_arg3)
      ∧ m' ((c.tc : Thread Cert.GqaReferenceIdeal.nD Cert.GqaReferenceIdeal.τ).loc Cert.GqaReferenceIdeal.main_arg4) = m ((c.tc : Thread Cert.GqaIdeal.nD Cert.GqaIdeal.τ).loc Cert.GqaIdeal.main_arg4)
      ∧ m' ((c.tc : Thread Cert.GqaReferenceIdeal.nD Cert.GqaReferenceIdeal.τ).loc Cert.GqaReferenceIdeal.main_arg5) = m ((c.tc : Thread Cert.GqaIdeal.nD Cert.GqaIdeal.τ).loc Cert.GqaIdeal.main_arg5)
      ∧ m' ((c.tc : Thread Cert.GqaReferenceIdeal.nD Cert.GqaReferenceIdeal.τ).loc Cert.GqaReferenceIdeal.main_arg6) = m ((c.tc : Thread Cert.GqaIdeal.nD Cert.GqaIdeal.τ).loc Cert.GqaIdeal.main_arg6)
      ∧ m' ((c.tc : Thread Cert.GqaReferenceIdeal.nD Cert.GqaReferenceIdeal.τ).loc Cert.GqaReferenceIdeal.main_arg7) = m ((c.tc : Thread Cert.GqaIdeal.nD Cert.GqaIdeal.τ).loc Cert.GqaIdeal.main_arg7)
      ∧ m' ((c.tc : Thread Cert.GqaReferenceIdeal.nD Cert.GqaReferenceIdeal.τ).loc Cert.GqaReferenceIdeal.main_arg8) = m ((c.tc : Thread Cert.GqaIdeal.nD Cert.GqaIdeal.τ).loc Cert.GqaIdeal.main_arg8)) →
    ∃ (v0 : (c : Dev Cert.GqaIdeal.nD) → Buf (Elt Ideal) ((c.tc : Thread Cert.GqaIdeal.nD Cert.GqaIdeal.τ).loc Cert.GqaIdeal.main_v50_0)) (v1 : (c : Dev Cert.GqaIdeal.nD) → Buf (Elt Ideal) ((c.tc : Thread Cert.GqaIdeal.nD Cert.GqaIdeal.τ).loc Cert.GqaIdeal.main_v50_1)) (v2 : (c : Dev Cert.GqaIdeal.nD) → Buf (Elt Ideal) ((c.tc : Thread Cert.GqaIdeal.nD Cert.GqaIdeal.τ).loc Cert.GqaIdeal.main_v50_2)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v50_0) = v0 c
          ∧ r.2.mem ((c.tc : Thread Cert.GqaIdeal.nD Cert.GqaIdeal.τ).loc Cert.GqaIdeal.main_v50_1) = v1 c
          ∧ r.2.mem ((c.tc : Thread Cert.GqaIdeal.nD Cert.GqaIdeal.τ).loc Cert.GqaIdeal.main_v50_2) = v2 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5)
          ∧ r.2.mem ((c.tc : Thread Cert.GqaIdeal.nD Cert.GqaIdeal.τ).loc Cert.GqaIdeal.main_arg6) = m ((c.tc : Thread Cert.GqaIdeal.nD Cert.GqaIdeal.τ).loc Cert.GqaIdeal.main_arg6)
          ∧ r.2.mem ((c.tc : Thread Cert.GqaIdeal.nD Cert.GqaIdeal.τ).loc Cert.GqaIdeal.main_arg7) = m ((c.tc : Thread Cert.GqaIdeal.nD Cert.GqaIdeal.τ).loc Cert.GqaIdeal.main_arg7)
          ∧ r.2.mem ((c.tc : Thread Cert.GqaIdeal.nD Cert.GqaIdeal.τ).loc Cert.GqaIdeal.main_arg8) = m ((c.tc : Thread Cert.GqaIdeal.nD Cert.GqaIdeal.τ).loc Cert.GqaIdeal.main_arg8))
      ∧ θ_run (Cert.GqaReferenceIdeal.defs (F := Ideal)) (onTc (τ := Cert.GqaReferenceIdeal.τ) (Cert.GqaReferenceIdeal.main (F := Ideal))) ⟨m', fun _ => 0, g'⟩ (fun r => ∀ c : Dev Cert.GqaReferenceIdeal.nD,
          r.2.mem ((c.tc : Thread Cert.GqaReferenceIdeal.nD Cert.GqaReferenceIdeal.τ).loc Cert.GqaReferenceIdeal.main_v192) = v0 c
          ∧ r.2.mem ((c.tc : Thread Cert.GqaReferenceIdeal.nD Cert.GqaReferenceIdeal.τ).loc Cert.GqaReferenceIdeal.main_v193) = v1 c
          ∧ r.2.mem ((c.tc : Thread Cert.GqaReferenceIdeal.nD Cert.GqaReferenceIdeal.τ).loc Cert.GqaReferenceIdeal.main_v197) = v2 c
          ∧ r.2.mem ((c.tc : Thread Cert.GqaReferenceIdeal.nD Cert.GqaReferenceIdeal.τ).loc Cert.GqaReferenceIdeal.main_arg0) = m' ((c.tc : Thread Cert.GqaReferenceIdeal.nD Cert.GqaReferenceIdeal.τ).loc Cert.GqaReferenceIdeal.main_arg0)
          ∧ r.2.mem ((c.tc : Thread Cert.GqaReferenceIdeal.nD Cert.GqaReferenceIdeal.τ).loc Cert.GqaReferenceIdeal.main_arg1) = m' ((c.tc : Thread Cert.GqaReferenceIdeal.nD Cert.GqaReferenceIdeal.τ).loc Cert.GqaReferenceIdeal.main_arg1)
          ∧ r.2.mem ((c.tc : Thread Cert.GqaReferenceIdeal.nD Cert.GqaReferenceIdeal.τ).loc Cert.GqaReferenceIdeal.main_arg2) = m' ((c.tc : Thread Cert.GqaReferenceIdeal.nD Cert.GqaReferenceIdeal.τ).loc Cert.GqaReferenceIdeal.main_arg2)
          ∧ r.2.mem ((c.tc : Thread Cert.GqaReferenceIdeal.nD Cert.GqaReferenceIdeal.τ).loc Cert.GqaReferenceIdeal.main_arg3) = m' ((c.tc : Thread Cert.GqaReferenceIdeal.nD Cert.GqaReferenceIdeal.τ).loc Cert.GqaReferenceIdeal.main_arg3)
          ∧ r.2.mem ((c.tc : Thread Cert.GqaReferenceIdeal.nD Cert.GqaReferenceIdeal.τ).loc Cert.GqaReferenceIdeal.main_arg4) = m' ((c.tc : Thread Cert.GqaReferenceIdeal.nD Cert.GqaReferenceIdeal.τ).loc Cert.GqaReferenceIdeal.main_arg4)
          ∧ r.2.mem ((c.tc : Thread Cert.GqaReferenceIdeal.nD Cert.GqaReferenceIdeal.τ).loc Cert.GqaReferenceIdeal.main_arg5) = m' ((c.tc : Thread Cert.GqaReferenceIdeal.nD Cert.GqaReferenceIdeal.τ).loc Cert.GqaReferenceIdeal.main_arg5)
          ∧ r.2.mem ((c.tc : Thread Cert.GqaReferenceIdeal.nD Cert.GqaReferenceIdeal.τ).loc Cert.GqaReferenceIdeal.main_arg6) = m' ((c.tc : Thread Cert.GqaReferenceIdeal.nD Cert.GqaReferenceIdeal.τ).loc Cert.GqaReferenceIdeal.main_arg6)
          ∧ r.2.mem ((c.tc : Thread Cert.GqaReferenceIdeal.nD Cert.GqaReferenceIdeal.τ).loc Cert.GqaReferenceIdeal.main_arg7) = m' ((c.tc : Thread Cert.GqaReferenceIdeal.nD Cert.GqaReferenceIdeal.τ).loc Cert.GqaReferenceIdeal.main_arg7)
          ∧ r.2.mem ((c.tc : Thread Cert.GqaReferenceIdeal.nD Cert.GqaReferenceIdeal.τ).loc Cert.GqaReferenceIdeal.main_arg8) = m' ((c.tc : Thread Cert.GqaReferenceIdeal.nD Cert.GqaReferenceIdeal.τ).loc Cert.GqaReferenceIdeal.main_arg8))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v5) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_First_FirstIdeal : Prop :=
  True

def algebraic_FirstIdeal_FirstReferenceIdeal_pre_finite_first [hFirstIdeal : Cert.FirstIdeal.Facts] [hFirstReferenceIdeal : Cert.FirstReferenceIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_finite_first m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
      ∧ m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
      ∧ m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)
      ∧ m' ((c.tc : Thread Cert.FirstReferenceIdeal.nD Cert.FirstReferenceIdeal.τ).loc Cert.FirstReferenceIdeal.main_arg11) = m ((c.tc : Thread Cert.FirstIdeal.nD Cert.FirstIdeal.τ).loc Cert.FirstIdeal.main_arg11)
      ∧ m' ((c.tc : Thread Cert.FirstReferenceIdeal.nD Cert.FirstReferenceIdeal.τ).loc Cert.FirstReferenceIdeal.main_arg12) = m ((c.tc : Thread Cert.FirstIdeal.nD Cert.FirstIdeal.τ).loc Cert.FirstIdeal.main_arg12)
      ∧ m' ((c.tc : Thread Cert.FirstReferenceIdeal.nD Cert.FirstReferenceIdeal.τ).loc Cert.FirstReferenceIdeal.main_arg13) = m ((c.tc : Thread Cert.FirstIdeal.nD Cert.FirstIdeal.τ).loc Cert.FirstIdeal.main_arg13)
      ∧ m' ((c.tc : Thread Cert.FirstReferenceIdeal.nD Cert.FirstReferenceIdeal.τ).loc Cert.FirstReferenceIdeal.main_arg14) = m ((c.tc : Thread Cert.FirstIdeal.nD Cert.FirstIdeal.τ).loc Cert.FirstIdeal.main_arg14)
      ∧ m' ((c.tc : Thread Cert.FirstReferenceIdeal.nD Cert.FirstReferenceIdeal.τ).loc Cert.FirstReferenceIdeal.main_arg15) = m ((c.tc : Thread Cert.FirstIdeal.nD Cert.FirstIdeal.τ).loc Cert.FirstIdeal.main_arg15)
      ∧ m' ((c.tc : Thread Cert.FirstReferenceIdeal.nD Cert.FirstReferenceIdeal.τ).loc Cert.FirstReferenceIdeal.main_arg16) = m ((c.tc : Thread Cert.FirstIdeal.nD Cert.FirstIdeal.τ).loc Cert.FirstIdeal.main_arg16)) →
    ∃ (v0 : (c : Dev Cert.FirstIdeal.nD) → Buf (Elt Ideal) ((c.tc : Thread Cert.FirstIdeal.nD Cert.FirstIdeal.τ).loc Cert.FirstIdeal.main_v14_0)) (v1 : (c : Dev Cert.FirstIdeal.nD) → Buf (Elt Ideal) ((c.tc : Thread Cert.FirstIdeal.nD Cert.FirstIdeal.τ).loc Cert.FirstIdeal.main_v14_1)) (v2 : (c : Dev Cert.FirstIdeal.nD) → Buf (Elt Ideal) ((c.tc : Thread Cert.FirstIdeal.nD Cert.FirstIdeal.τ).loc Cert.FirstIdeal.main_v14_2)) (v3 : (c : Dev Cert.FirstIdeal.nD) → Buf (Elt Ideal) ((c.tc : Thread Cert.FirstIdeal.nD Cert.FirstIdeal.τ).loc Cert.FirstIdeal.main_v14_3)) (v4 : (c : Dev Cert.FirstIdeal.nD) → Buf (Elt Ideal) ((c.tc : Thread Cert.FirstIdeal.nD Cert.FirstIdeal.τ).loc Cert.FirstIdeal.main_v14_4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v14_0) = v0 c
          ∧ r.2.mem ((c.tc : Thread Cert.FirstIdeal.nD Cert.FirstIdeal.τ).loc Cert.FirstIdeal.main_v14_1) = v1 c
          ∧ r.2.mem ((c.tc : Thread Cert.FirstIdeal.nD Cert.FirstIdeal.τ).loc Cert.FirstIdeal.main_v14_2) = v2 c
          ∧ r.2.mem ((c.tc : Thread Cert.FirstIdeal.nD Cert.FirstIdeal.τ).loc Cert.FirstIdeal.main_v14_3) = v3 c
          ∧ r.2.mem ((c.tc : Thread Cert.FirstIdeal.nD Cert.FirstIdeal.τ).loc Cert.FirstIdeal.main_v14_4) = v4 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
          ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
          ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
          ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
          ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
          ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v36) = v0 c
          ∧ r.2.mem ((c.tc : Thread Cert.FirstReferenceIdeal.nD Cert.FirstReferenceIdeal.τ).loc Cert.FirstReferenceIdeal.main_v41) = v1 c
          ∧ r.2.mem ((c.tc : Thread Cert.FirstReferenceIdeal.nD Cert.FirstReferenceIdeal.τ).loc Cert.FirstReferenceIdeal.main_v43) = v2 c
          ∧ r.2.mem ((c.tc : Thread Cert.FirstReferenceIdeal.nD Cert.FirstReferenceIdeal.τ).loc Cert.FirstReferenceIdeal.main_v51) = v3 c
          ∧ r.2.mem ((c.tc : Thread Cert.FirstReferenceIdeal.nD Cert.FirstReferenceIdeal.τ).loc Cert.FirstReferenceIdeal.main_v53) = v4 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11)
          ∧ r.2.mem ((c.tc : Thread Cert.FirstReferenceIdeal.nD Cert.FirstReferenceIdeal.τ).loc Cert.FirstReferenceIdeal.main_arg12) = m' ((c.tc : Thread Cert.FirstReferenceIdeal.nD Cert.FirstReferenceIdeal.τ).loc Cert.FirstReferenceIdeal.main_arg12)
          ∧ r.2.mem ((c.tc : Thread Cert.FirstReferenceIdeal.nD Cert.FirstReferenceIdeal.τ).loc Cert.FirstReferenceIdeal.main_arg13) = m' ((c.tc : Thread Cert.FirstReferenceIdeal.nD Cert.FirstReferenceIdeal.τ).loc Cert.FirstReferenceIdeal.main_arg13)
          ∧ r.2.mem ((c.tc : Thread Cert.FirstReferenceIdeal.nD Cert.FirstReferenceIdeal.τ).loc Cert.FirstReferenceIdeal.main_arg14) = m' ((c.tc : Thread Cert.FirstReferenceIdeal.nD Cert.FirstReferenceIdeal.τ).loc Cert.FirstReferenceIdeal.main_arg14)
          ∧ r.2.mem ((c.tc : Thread Cert.FirstReferenceIdeal.nD Cert.FirstReferenceIdeal.τ).loc Cert.FirstReferenceIdeal.main_arg15) = m' ((c.tc : Thread Cert.FirstReferenceIdeal.nD Cert.FirstReferenceIdeal.τ).loc Cert.FirstReferenceIdeal.main_arg15)
          ∧ r.2.mem ((c.tc : Thread Cert.FirstReferenceIdeal.nD Cert.FirstReferenceIdeal.τ).loc Cert.FirstReferenceIdeal.main_arg16) = m' ((c.tc : Thread Cert.FirstReferenceIdeal.nD Cert.FirstReferenceIdeal.τ).loc Cert.FirstReferenceIdeal.main_arg16))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidReferenceIdeal : Cert.MidReferenceIdeal.Facts) (hOut : Cert.Out.Facts) (hOutIdeal : Cert.OutIdeal.Facts) (hOutReferenceIdeal : Cert.OutReferenceIdeal.Facts) (hNat : Cert.Nat.Facts) (hNatIdeal : Cert.NatIdeal.Facts) (hNatReferenceIdeal : Cert.NatReferenceIdeal.Facts) (hGqa : Cert.Gqa.Facts) (hGqaIdeal : Cert.GqaIdeal.Facts) (hGqaReferenceIdeal : Cert.GqaReferenceIdeal.Facts) (hMod : Cert.Mod.Facts) (hModIdeal : Cert.ModIdeal.Facts) (hModReferenceIdeal : Cert.ModReferenceIdeal.Facts) (hFirst : Cert.First.Facts) (hFirstIdeal : Cert.FirstIdeal.Facts) (hFirstReferenceIdeal : Cert.FirstReferenceIdeal.Facts) (hPre_finite : Cert.Pre_finite.Facts) (hPre_finite_mid : Cert.Pre_finite_mid.Facts) (hPre_finite_first : Cert.Pre_finite_first.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidReferenceIdeal (hMidReferenceIdeal := hMidReferenceIdeal)
    ∧ quiescent_MidReferenceIdeal_pre_finite_mid (hMidReferenceIdeal := hMidReferenceIdeal) (hPre_finite_mid := hPre_finite_mid)
    ∧ quiescent_Out (hOut := hOut)
    ∧ quiescent_OutIdeal (hOutIdeal := hOutIdeal)
    ∧ quiescent_OutReferenceIdeal (hOutReferenceIdeal := hOutReferenceIdeal)
    ∧ quiescent_Nat (hNat := hNat)
    ∧ quiescent_NatIdeal (hNatIdeal := hNatIdeal)
    ∧ quiescent_NatReferenceIdeal (hNatReferenceIdeal := hNatReferenceIdeal)
    ∧ quiescent_Gqa (hGqa := hGqa)
    ∧ quiescent_GqaIdeal (hGqaIdeal := hGqaIdeal)
    ∧ quiescent_GqaReferenceIdeal (hGqaReferenceIdeal := hGqaReferenceIdeal)
    ∧ quiescent_Mod (hMod := hMod)
    ∧ quiescent_ModIdeal (hModIdeal := hModIdeal)
    ∧ quiescent_ModReferenceIdeal (hModReferenceIdeal := hModReferenceIdeal)
    ∧ quiescent_First (hFirst := hFirst)
    ∧ quiescent_FirstIdeal (hFirstIdeal := hFirstIdeal)
    ∧ quiescent_FirstIdeal_pre_finite_first (hFirstIdeal := hFirstIdeal) (hPre_finite_first := hPre_finite_first)
    ∧ quiescent_FirstReferenceIdeal (hFirstReferenceIdeal := hFirstReferenceIdeal)
    ∧ quiescent_FirstReferenceIdeal_pre_finite_first (hFirstReferenceIdeal := hFirstReferenceIdeal) (hPre_finite_first := hPre_finite_first)
    ∧ preserves_Kernel_KernelIdeal
    ∧ algebraic_KernelIdeal_ReferenceIdeal_pre_finite (hKernelIdeal := hKernelIdeal) (hReferenceIdeal := hReferenceIdeal) (hPre_finite := hPre_finite)
    ∧ preserves_Mid_MidIdeal
    ∧ algebraic_MidIdeal_MidReferenceIdeal_pre_finite_mid (hMidIdeal := hMidIdeal) (hMidReferenceIdeal := hMidReferenceIdeal) (hPre_finite_mid := hPre_finite_mid)
    ∧ preserves_Out_OutIdeal
    ∧ algebraic_OutIdeal_OutReferenceIdeal (hOutIdeal := hOutIdeal) (hOutReferenceIdeal := hOutReferenceIdeal)
    ∧ preserves_Nat_NatIdeal
    ∧ algebraic_NatIdeal_NatReferenceIdeal (hNatIdeal := hNatIdeal) (hNatReferenceIdeal := hNatReferenceIdeal)
    ∧ preserves_Gqa_GqaIdeal
    ∧ algebraic_GqaIdeal_GqaReferenceIdeal (hGqaIdeal := hGqaIdeal) (hGqaReferenceIdeal := hGqaReferenceIdeal)
    ∧ preserves_Mod_ModIdeal
    ∧ algebraic_ModIdeal_ModReferenceIdeal (hModIdeal := hModIdeal) (hModReferenceIdeal := hModReferenceIdeal)
    ∧ preserves_First_FirstIdeal
    ∧ algebraic_FirstIdeal_FirstReferenceIdeal_pre_finite_first (hFirstIdeal := hFirstIdeal) (hFirstReferenceIdeal := hFirstReferenceIdeal) (hPre_finite_first := hPre_finite_first)
-- ==== Pre_finite.lean ====
abbrev S2x4096x2048 : Shape := ⟨3, ![2, 4096, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S_ : Shape := ⟨0, ![]⟩
abbrev S2x1x2048 : Shape := ⟨3, ![2, 1, 2048]⟩
abbrev S2x2048 : Shape := ⟨2, ![2, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  slices_S3x6x2048_S2x1x2048_0_5_0 : S3x6x2048.Slices ![0, 5, 0] S2x1x2048
  shapeCasts_S2x1x2048_S2x2048 : S2x1x2048.ShapeCasts S2x2048
  bcast_S_S2x2048 : S_.BroadcastsInDim S2x2048 (![] : Fin 0 → Fin S2x2048.rank)
  reducesTo_S2x2048_S_d0_1 : S2x2048.ReducesTo [0, 1] S_
  slices_S4x2048x5632_S1x2048x5632_3_0_0 : S4x2048x5632.Slices ![3, 0, 0] S1x2048x5632
  shapeCasts_S1x2048x5632_S2048x5632 : S1x2048x5632.ShapeCasts S2048x5632
  bcast_S_S2048x5632 : S_.BroadcastsInDim S2048x5632 (![] : Fin 0 → Fin S2048x5632.rank)
  reducesTo_S2048x5632_S_d0_1 : S2048x5632.ReducesTo [0, 1] S_
  slices_S4x5632x2048_S1x5632x2048_3_0_0 : S4x5632x2048.Slices ![3, 0, 0] S1x5632x2048
  shapeCasts_S1x5632x2048_S5632x2048 : S1x5632x2048.ShapeCasts S5632x2048
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S4x2048x5632 .f32) (main_arg5 : FVec F S4x5632x2048 .f32) (main_v17 : IVec S_ 1) : IVec S_ 1 :=
  let main_v18 : FVec F S1x2048x5632 .f32 := (extractStridedSlice S1x2048x5632 ![3, 0, 0] · slices_S4x2048x5632_S1x2048x5632_3_0_0) main_arg4
  let main_v19 : FVec F S2048x5632 .f32 := shapeCast S2048x5632 main_v18 shapeCasts_S1x2048x5632_S2048x5632
  let main_v20 : FVec F S2048x5632 .f32 := Host.absf main_v19
  let main_cst_4 : FVec F S_ .f32 := constant S_ .f32 0x7F800000#32
  let main_v21 : FVec F S2048x5632 .f32 := broadcastInDim S2048x5632 ![] bcast_S_S2048x5632 main_cst_4
  let main_v22 : IVec S2048x5632 1 := cmpf .olt main_v20 main_v21
  let main_c_5 : IVec S_ 1 := constantI S_ 1 1#1
  let main_v23 : IVec S_ 1 := (fun x v => Host.reduce IntOp.andi x v reducesTo_S2048x5632_S_d0_1 h_S_) main_v22 main_c_5
  let main_v24 : IVec S_ 1 := andi main_v17 main_v23
  let main_v25 : FVec F S1x5632x2048 .f32 := (extractStridedSlice S1x5632x2048 ![3, 0, 0] · slices_S4x5632x2048_S1x5632x2048_3_0_0) main_arg5
  let main_v26 : FVec F S5632x2048 .f32 := shapeCast S5632x2048 main_v25 shapeCasts_S1x5632x2048_S5632x2048
  let main_v27 : FVec F S5632x2048 .f32 := Host.absf main_v26
  let main_cst_6 : FVec F S_ .f32 := constant S_ .f32 0x7F800000#32
  let main_v28 : FVec F S5632x2048 .f32 := broadcastInDim S5632x2048 ![] bcast_S_S5632x2048 main_cst_6
  let main_v29 : IVec S5632x2048 1 := cmpf .olt main_v27 main_v28
  let main_c_7 : IVec S_ 1 := constantI S_ 1 1#1
  let main_v30 : IVec S_ 1 := (fun x v => Host.reduce IntOp.andi x v reducesTo_S5632x2048_S_d0_1 h_S_) main_v29 main_c_7
  let main_v31 : IVec S_ 1 := andi main_v24 main_v30
  main_v31

def fn {F : FTy → Type} [FloatOps F] (main_arg0 : FVec F S2x4096x2048 .f32) (main_arg1 : FVec F S2x4096x2048 .f32) (main_arg2 : FVec F S3x6x2048 .f32) (main_arg3 : FVec F S4x2048x5632 .f32) (main_arg4 : FVec F S4x2048x5632 .f32) (main_arg5 : FVec F S4x5632x2048 .f32) (main_arg6 : FVec F S2048 .f32) : IVec S_ 1 :=
  let main_v0 : FVec F S2x4096x2048 .f32 := Host.absf main_arg1
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x1x2048 .f32 := (extractStridedSlice S2x1x2048 ![0, 5, 0] · slices_S3x6x2048_S2x1x2048_0_5_0) main_arg2
  let main_v5 : FVec F S2x2048 .f32 := shapeCast S2x2048 main_v4 shapeCasts_S2x1x2048_S2x2048
  let main_v6 : FVec F S2x2048 .f32 := Host.absf main_v5
  let main_cst_0 : FVec F S_ .f32 := constant S_ .f32 0x7F800000#32
  let main_v7 : FVec F S2x2048 .f32 := broadcastInDim S2x2048 ![] bcast_S_S2x2048 main_cst_0
  let main_v8 : IVec S2x2048 1 := cmpf .olt main_v6 main_v7
  let main_c_1 : IVec S_ 1 := constantI S_ 1 1#1
  let main_v9 : IVec S_ 1 := (fun x v => Host.reduce IntOp.andi x v reducesTo_S2x2048_S_d0_1 h_S_) main_v8 main_c_1
  let main_v10 : IVec S_ 1 := andi main_v3 main_v9
  let main_v11 : FVec F S1x2048x5632 .f32 := (extractStridedSlice S1x2048x5632 ![3, 0, 0] · slices_S4x2048x5632_S1x2048x5632_3_0_0) main_arg3
  let main_v12 : FVec F S2048x5632 .f32 := shapeCast S2048x5632 main_v11 shapeCasts_S1x2048x5632_S2048x5632
  let main_v13 : FVec F S2048x5632 .f32 := Host.absf main_v12
  let main_cst_2 : FVec F S_ .f32 := constant S_ .f32 0x7F800000#32
  let main_v14 : FVec F S2048x5632 .f32 := broadcastInDim S2048x5632 ![] bcast_S_S2048x5632 main_cst_2
  let main_v15 : IVec S2048x5632 1 := cmpf .olt main_v13 main_v14
  let main_c_3 : IVec S_ 1 := constantI S_ 1 1#1
  let main_v16 : IVec S_ 1 := (fun x v => Host.reduce IntOp.andi x v reducesTo_S2048x5632_S_d0_1 h_S_) main_v15 main_c_3
  let main_v17 : IVec S_ 1 := andi main_v10 main_v16
  fn_part1 (F := F) main_arg4 main_arg5 main_v17
-- ==== Pre_finite_first.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x2048 : Shape := ⟨3, ![1, 2048, 2048]⟩
abbrev S1x2048x512 : Shape := ⟨3, ![1, 2048, 512]⟩
abbrev S_ : Shape := ⟨0, ![]⟩
abbrev S3x1x2048 : Shape := ⟨3, ![3, 1, 2048]⟩
abbrev S3x2048 : Shape := ⟨2, ![3, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  slices_S3x6x2048_S3x1x2048_0_5_0 : S3x6x2048.Slices ![0, 5, 0] S3x1x2048
  shapeCasts_S3x1x2048_S3x2048 : S3x1x2048.ShapeCasts S3x2048
  bcast_S_S3x2048 : S_.BroadcastsInDim S3x2048 (![] : Fin 0 → Fin S3x2048.rank)
  reducesTo_S3x2048_S_d0_1 : S3x2048.ReducesTo [0, 1] S_
  slices_S4x2048x5632_S1x2048x5632_0_0_0 : S4x2048x5632.Slices ![0, 0, 0] S1x2048x5632
  shapeCasts_S1x2048x5632_S2048x5632 : S1x2048x5632.ShapeCasts S2048x5632
  bcast_S_S2048x5632 : S_.BroadcastsInDim S2048x5632 (![] : Fin 0 → Fin S2048x5632.rank)
  reducesTo_S2048x5632_S_d0_1 : S2048x5632.ReducesTo [0, 1] S_
  slices_S4x5632x2048_S1x5632x2048_0_0_0 : S4x5632x2048.Slices ![0, 0, 0] S1x5632x2048
  shapeCasts_S1x5632x2048_S5632x2048 : S1x5632x2048.ShapeCasts S5632x2048
  bcast_S_S5632x2048 : S_.BroadcastsInDim S5632x2048 (![] : Fin 0 → Fin S5632x2048.rank)
  reducesTo_S5632x2048_S_d0_1 : S5632x2048.ReducesTo [0, 1] S_

variable [Facts]

def fn_part2 {F : FTy → Type} [FloatOps F] (main_v29 : IVec S_ 1) (main_v35 : IVec S_ 1) : IVec S_ 1 :=
  let main_v36 : IVec S_ 1 := andi main_v29 main_v35
  main_v36

def fn_part1 {F : FTy → Type} [FloatOps F] (main_arg6 : FVec F S4x2048x5632 .f32) (main_arg7 : FVec F S4x5632x2048 .f32) (main_v15 : IVec S_ 1) (main_v17 : FVec F S2048x5632 .f32) : IVec S_ 1 :=
  let main_v18 : FVec F S2048x5632 .f32 := Host.absf main_v17
  let main_cst_4 : FVec F S_ .f32 := constant S_ .f32 0x7F800000#32
  let main_v19 : FVec F S2048x5632 .f32 := broadcastInDim S2048x5632 ![] bcast_S_S2048x5632 main_cst_4
  let main_v20 : IVec S2048x5632 1 := cmpf .olt main_v18 main_v19
  let main_c_5 : IVec S_ 1 := constantI S_ 1 1#1
  let main_v21 : IVec S_ 1 := (fun x v => Host.reduce IntOp.andi x v reducesTo_S2048x5632_S_d0_1 h_S_) main_v20 main_c_5
  let main_v22 : IVec S_ 1 := andi main_v15 main_v21
  let main_v23 : FVec F S1x2048x5632 .f32 := (extractStridedSlice S1x2048x5632 ![0, 0, 0] · slices_S4x2048x5632_S1x2048x5632_0_0_0) main_arg6
  let main_v24 : FVec F S2048x5632 .f32 := shapeCast S2048x5632 main_v23 shapeCasts_S1x2048x5632_S2048x5632
  let main_v25 : FVec F S2048x5632 .f32 := Host.absf main_v24
  let main_cst_6 : FVec F S_ .f32 := constant S_ .f32 0x7F800000#32
  let main_v26 : FVec F S2048x5632 .f32 := broadcastInDim S2048x5632 ![] bcast_S_S2048x5632 main_cst_6
  let main_v27 : IVec S2048x5632 1 := cmpf .olt main_v25 main_v26
  let main_c_7 : IVec S_ 1 := constantI S_ 1 1#1
  let main_v28 : IVec S_ 1 := (fun x v => Host.reduce IntOp.andi x v reducesTo_S2048x5632_S_d0_1 h_S_) main_v27 main_c_7
  let main_v29 : IVec S_ 1 := andi main_v22 main_v28
  let main_v30 : FVec F S1x5632x2048 .f32 := (extractStridedSlice S1x5632x2048 ![0, 0, 0] · slices_S4x5632x2048_S1x5632x2048_0_0_0) main_arg7
  let main_v31 : FVec F S5632x2048 .f32 := shapeCast S5632x2048 main_v30 shapeCasts_S1x5632x2048_S5632x2048
  let main_v32 : FVec F S5632x2048 .f32 := Host.absf main_v31
  let main_cst_8 : FVec F S_ .f32 := constant S_ .f32 0x7F800000#32
  let main_v33 : FVec F S5632x2048 .f32 := broadcastInDim S5632x2048 ![] bcast_S_S5632x2048 main_cst_8
  let main_v34 : IVec S5632x2048 1 := cmpf .olt main_v32 main_v33
  let main_c_9 : IVec S_ 1 := constantI S_ 1 1#1
  let main_v35 : IVec S_ 1 := (fun x v => Host.reduce IntOp.andi x v reducesTo_S5632x2048_S_d0_1 h_S_) main_v34 main_c_9
  fn_part2 (F := F) main_v29 main_v35

def fn {F : FTy → Type} [FloatOps F] (main_arg0 : FVec F S2x4096x2048 .f32) (main_arg1 : FVec F S2x256x2048 .f32) (main_arg2 : FVec F S2x4096x2048 .f32) (main_arg3 : FVec F S2x256x2048 .f32) (main_arg4 : FVec F S3x6x2048 .f32) (main_arg5 : FVec F S4x2048x5632 .f32) (main_arg6 : FVec F S4x2048x5632 .f32) (main_arg7 : FVec F S4x5632x2048 .f32) (main_arg8 : FVec F S2048 .f32) (main_arg9 : FVec F S1x2048x2048 .f32) (main_arg10 : FVec F S1x2048x512 .f32) (main_arg11 : FVec F S1x2048x512 .f32) (main_arg12 : FVec F S1x2048x2048 .f32) (main_arg13 : FVec F S1x2048x2048 .f32) (main_arg14 : FVec F S1x2048x2048 .f32) (main_arg15 : FVec F S1x2048x2048 .f32) (main_arg16 : FVec F S1x2048x2048 .f32) : IVec S_ 1 :=
  let main_v0 : FVec F S2x4096x2048 .f32 := Host.absf main_arg2
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x256x2048 .f32 := Host.absf main_arg3
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  let main_v9 : FVec F S3x1x2048 .f32 := (extractStridedSlice S3x1x2048 ![0, 5, 0] · slices_S3x6x2048_S3x1x2048_0_5_0) main_arg4
  let main_v10 : FVec F S3x2048 .f32 := shapeCast S3x2048 main_v9 shapeCasts_S3x1x2048_S3x2048
  let main_v11 : FVec F S3x2048 .f32 := Host.absf main_v10
  let main_cst_2 : FVec F S_ .f32 := constant S_ .f32 0x7F800000#32
  let main_v12 : FVec F S3x2048 .f32 := broadcastInDim S3x2048 ![] bcast_S_S3x2048 main_cst_2
  let main_v13 : IVec S3x2048 1 := cmpf .olt main_v11 main_v12
  let main_c_3 : IVec S_ 1 := constantI S_ 1 1#1
  let main_v14 : IVec S_ 1 := (fun x v => Host.reduce IntOp.andi x v reducesTo_S3x2048_S_d0_1 h_S_) main_v13 main_c_3
  let main_v15 : IVec S_ 1 := andi main_v8 main_v14
  let main_v16 : FVec F S1x2048x5632 .f32 := (extractStridedSlice S1x2048x5632 ![0, 0, 0] · slices_S4x2048x5632_S1x2048x5632_0_0_0) main_arg5
  let main_v17 : FVec F S2048x5632 .f32 := shapeCast S2048x5632 main_v16 shapeCasts_S1x2048x5632_S2048x5632
  fn_part1 (F := F) main_arg6 main_arg7 main_v15 main_v17
-- ==== Pre_finite_mid.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S_ : Shape := ⟨0, ![]⟩
abbrev S3x1x2048 : Shape := ⟨3, ![3, 1, 2048]⟩
abbrev S3x2048 : Shape := ⟨2, ![3, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  slices_S3x6x2048_S3x1x2048_0_5_0 : S3x6x2048.Slices ![0, 5, 0] S3x1x2048
  shapeCasts_S3x1x2048_S3x2048 : S3x1x2048.ShapeCasts S3x2048
  bcast_S_S3x2048 : S_.BroadcastsInDim S3x2048 (![] : Fin 0 → Fin S3x2048.rank)
  reducesTo_S3x2048_S_d0_1 : S3x2048.ReducesTo [0, 1] S_
  slices_S4x2048x5632_S1x2048x5632_1_0_0 : S4x2048x5632.Slices ![1, 0, 0] S1x2048x5632
  shapeCasts_S1x2048x5632_S2048x5632 : S1x2048x5632.ShapeCasts S2048x5632
  bcast_S_S2048x5632 : S_.BroadcastsInDim S2048x5632 (![] : Fin 0 → Fin S2048x5632.rank)
  reducesTo_S2048x5632_S_d0_1 : S2048x5632.ReducesTo [0, 1] S_
  slices_S4x5632x2048_S1x5632x2048_1_0_0 : S4x5632x2048.Slices ![1, 0, 0] S1x5632x2048
  shapeCasts_S1x5632x2048_S5632x2048 : S1x5632x2048.ShapeCasts S5632x2048
  bcast_S_S5632x2048 : S_.BroadcastsInDim S5632x2048 (![] : Fin 0 → Fin S5632x2048.rank)
  reducesTo_S5632x2048_S_d0_1 : S5632x2048.ReducesTo [0, 1] S_

variable [Facts]

def fn_part2 {F : FTy → Type} [FloatOps F] (main_v29 : IVec S_ 1) (main_v35 : IVec S_ 1) : IVec S_ 1 :=
  let main_v36 : IVec S_ 1 := andi main_v29 main_v35
  main_v36

def fn_part1 {F : FTy → Type} [FloatOps F] (main_arg6 : FVec F S4x2048x5632 .f32) (main_arg7 : FVec F S4x5632x2048 .f32) (main_v15 : IVec S_ 1) (main_v17 : FVec F S2048x5632 .f32) : IVec S_ 1 :=
  let main_v18 : FVec F S2048x5632 .f32 := Host.absf main_v17
  let main_cst_4 : FVec F S_ .f32 := constant S_ .f32 0x7F800000#32
  let main_v19 : FVec F S2048x5632 .f32 := broadcastInDim S2048x5632 ![] bcast_S_S2048x5632 main_cst_4
  let main_v20 : IVec S2048x5632 1 := cmpf .olt main_v18 main_v19
  let main_c_5 : IVec S_ 1 := constantI S_ 1 1#1
  let main_v21 : IVec S_ 1 := (fun x v => Host.reduce IntOp.andi x v reducesTo_S2048x5632_S_d0_1 h_S_) main_v20 main_c_5
  let main_v22 : IVec S_ 1 := andi main_v15 main_v21
  let main_v23 : FVec F S1x2048x5632 .f32 := (extractStridedSlice S1x2048x5632 ![1, 0, 0] · slices_S4x2048x5632_S1x2048x5632_1_0_0) main_arg6
  let main_v24 : FVec F S2048x5632 .f32 := shapeCast S2048x5632 main_v23 shapeCasts_S1x2048x5632_S2048x5632
  let main_v25 : FVec F S2048x5632 .f32 := Host.absf main_v24
  let main_cst_6 : FVec F S_ .f32 := constant S_ .f32 0x7F800000#32
  let main_v26 : FVec F S2048x5632 .f32 := broadcastInDim S2048x5632 ![] bcast_S_S2048x5632 main_cst_6
  let main_v27 : IVec S2048x5632 1 := cmpf .olt main_v25 main_v26
  let main_c_7 : IVec S_ 1 := constantI S_ 1 1#1
  let main_v28 : IVec S_ 1 := (fun x v => Host.reduce IntOp.andi x v reducesTo_S2048x5632_S_d0_1 h_S_) main_v27 main_c_7
  let main_v29 : IVec S_ 1 := andi main_v22 main_v28
  let main_v30 : FVec F S1x5632x2048 .f32 := (extractStridedSlice S1x5632x2048 ![1, 0, 0] · slices_S4x5632x2048_S1x5632x2048_1_0_0) main_arg7
  let main_v31 : FVec F S5632x2048 .f32 := shapeCast S5632x2048 main_v30 shapeCasts_S1x5632x2048_S5632x2048
  let main_v32 : FVec F S5632x2048 .f32 := Host.absf main_v31
  let main_cst_8 : FVec F S_ .f32 := constant S_ .f32 0x7F800000#32
  let main_v33 : FVec F S5632x2048 .f32 := broadcastInDim S5632x2048 ![] bcast_S_S5632x2048 main_cst_8
  let main_v34 : IVec S5632x2048 1 := cmpf .olt main_v32 main_v33
  let main_c_9 : IVec S_ 1 := constantI S_ 1 1#1
  let main_v35 : IVec S_ 1 := (fun x v => Host.reduce IntOp.andi x v reducesTo_S5632x2048_S_d0_1 h_S_) main_v34 main_c_9
  fn_part2 (F := F) main_v29 main_v35

def fn {F : FTy → Type} [FloatOps F] (main_arg0 : FVec F S2x4096x2048 .f32) (main_arg1 : FVec F S2x256x2048 .f32) (main_arg2 : FVec F S2x4096x2048 .f32) (main_arg3 : FVec F S2x256x2048 .f32) (main_arg4 : FVec F S3x6x2048 .f32) (main_arg5 : FVec F S4x2048x5632 .f32) (main_arg6 : FVec F S4x2048x5632 .f32) (main_arg7 : FVec F S4x5632x2048 .f32) (main_arg8 : FVec F S2048 .f32) : IVec S_ 1 :=
  let main_v0 : FVec F S2x4096x2048 .f32 := Host.absf main_arg2
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x256x2048 .f32 := Host.absf main_arg3
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  let main_v9 : FVec F S3x1x2048 .f32 := (extractStridedSlice S3x1x2048 ![0, 5, 0] · slices_S3x6x2048_S3x1x2048_0_5_0) main_arg4
  let main_v10 : FVec F S3x2048 .f32 := shapeCast S3x2048 main_v9 shapeCasts_S3x1x2048_S3x2048
  let main_v11 : FVec F S3x2048 .f32 := Host.absf main_v10
  let main_cst_2 : FVec F S_ .f32 := constant S_ .f32 0x7F800000#32
  let main_v12 : FVec F S3x2048 .f32 := broadcastInDim S3x2048 ![] bcast_S_S3x2048 main_cst_2
  let main_v13 : IVec S3x2048 1 := cmpf .olt main_v11 main_v12
  let main_c_3 : IVec S_ 1 := constantI S_ 1 1#1
  let main_v14 : IVec S_ 1 := (fun x v => Host.reduce IntOp.andi x v reducesTo_S3x2048_S_d0_1 h_S_) main_v13 main_c_3
  let main_v15 : IVec S_ 1 := andi main_v8 main_v14
  let main_v16 : FVec F S1x2048x5632 .f32 := (extractStridedSlice S1x2048x5632 ![1, 0, 0] · slices_S4x2048x5632_S1x2048x5632_1_0_0) main_arg5
  let main_v17 : FVec F S2048x5632 .f32 := shapeCast S2048x5632 main_v16 shapeCasts_S1x2048x5632_S2048x5632
  fn_part1 (F := F) main_arg6 main_arg7 main_v15 main_v17
-- ==== Kernel.lean ====
abbrev S2x4096x2048 : Shape := ⟨3, ![2, 4096, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S512x2048 : Shape := ⟨2, ![512, 2048]⟩
abbrev S1x6x2048 : Shape := ⟨3, ![1, 6, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S3x6x2048, .f32⟩
  | .hbm, ⟨3, _⟩ => ⟨S4x2048x5632, .f32⟩
  | .hbm, ⟨4, _⟩ => ⟨S4x2048x5632, .f32⟩
  | .hbm, ⟨5, _⟩ => ⟨S4x5632x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S1x2048x5632, .f32⟩
  | .hbm, ⟨11, _⟩ => ⟨S1x2048x5632, .bf16⟩
  | .hbm, ⟨12, _⟩ => ⟨S1x2048x5632, .f32⟩
  | .hbm, ⟨13, _⟩ => ⟨S1x2048x5632, .bf16⟩
  | .hbm, ⟨14, _⟩ => ⟨S1x5632x2048, .f32⟩
  | .hbm, ⟨15, _⟩ => ⟨S1x5632x2048, .bf16⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x6x2048, .f32⟩
  | .local _ .vmem, ⟨5, _⟩ => ⟨S1x6x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x4096x2048 : Shape := ⟨3, ![2, 4096, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S2x1x2048 : Shape := ⟨3, ![2, 1, 2048]⟩
abbrev S2x2048 : Shape := ⟨2, ![2, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x4096x5632 : Shape := ⟨3, ![2, 4096, 5632]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S3x6x2048, .f32⟩
  | .hbm, ⟨3, _⟩ => ⟨S4x2048x5632, .f32⟩
  | .hbm, ⟨4, _⟩ => ⟨S4x2048x5632, .f32⟩
  | .hbm, ⟨5, _⟩ => ⟨S4x5632x2048, .f32⟩
  | .hbm, ⟨6, _⟩ => ⟨S2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S1x2048x5632, .f32⟩
  | .hbm, ⟨11, _⟩ => ⟨S2048x5632, .f32⟩
  | .hbm, ⟨12, _⟩ => ⟨S1x2048x5632, .f32⟩
  | .hbm, ⟨13, _⟩ => ⟨S2048x5632, .f32⟩
  | .hbm, ⟨14, _⟩ => ⟨S1x5632x2048, .f32⟩
  | .hbm, ⟨15, _⟩ => ⟨S5632x2048, .f32⟩
  | .hbm, ⟨16, _⟩ => ⟨S2x4096x5632, .f32⟩
  | .hbm, ⟨17, _⟩ => ⟨S2x4096x5632, .f32⟩
  | .hbm, ⟨18, _⟩ => ⟨S2x4096x5632, .f32⟩
  | .hbm, ⟨19, _⟩ => ⟨S_, .f32⟩
  | .hbm, ⟨20, _⟩ => ⟨S2x4096x5632, .f32⟩
  | .hbm, ⟨21, _⟩ => ⟨S2x4096x5632, .f32⟩
  | .hbm, ⟨22, _⟩ => ⟨S_, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x2048, .f32⟩
  | .hbm, ⟨44, _⟩ => ⟨S2x4096x2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Mid.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S8192x2048 : Shape := ⟨2, ![8192, 2048]⟩
abbrev S512x2048 : Shape := ⟨2, ![512, 2048]⟩
abbrev S8704x2048 : Shape := ⟨2, ![8704, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1x6x2048 : Shape := ⟨3, ![1, 6, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S1x1x2048 : Shape := ⟨3, ![1, 1, 2048]⟩

abbrev nBuf : Space → Nat
  | .hbm => 24
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S2048, .f32⟩
  | .hbm, ⟨9, _⟩ => ⟨S8192x2048, .f32⟩
  | .hbm, ⟨10, _⟩ => ⟨S512x2048, .f32⟩
  | .hbm, ⟨11, _⟩ => ⟨S8704x2048, .f32⟩
  | .hbm, ⟨12, _⟩ => ⟨S8192x2048, .f32⟩
  | .hbm, ⟨13, _⟩ => ⟨S512x2048, .f32⟩
  | .hbm, ⟨14, _⟩ => ⟨S8704x2048, .f32⟩
  | .hbm, ⟨15, _⟩ => ⟨S8704x2048, .bf16⟩
  | .hbm, ⟨16, _⟩ => ⟨S2x2048x5632, .f32⟩
  | .hbm, ⟨17, _⟩ => ⟨S2x2048x5632, .bf16⟩
  | .hbm, ⟨18, _⟩ => ⟨S2x2048x5632, .f32⟩
  | .hbm, ⟨19, _⟩ => ⟨S2x2048x5632, .bf16⟩
  | .hbm, ⟨20, _⟩ => ⟨S2x5632x2048, .f32⟩
  | .hbm, ⟨21, _⟩ => ⟨S2x5632x2048, .bf16⟩
  | .hbm, ⟨22, _⟩ => ⟨S1x2048, .f32⟩
  | .hbm, ⟨23, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x6x2048, .f32⟩
  | .local _ .vmem, ⟨5, _⟩ => ⟨S1x6x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MidReferenceIdeal.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S2x1x2048 : Shape := ⟨3, ![2, 1, 2048]⟩
abbrev S2x2048 : Shape := ⟨2, ![2, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x4096x5632 : Shape := ⟨3, ![2, 4096, 5632]⟩
abbrev S_ : Shape := ⟨0, ![]⟩
abbrev S1x1x2048 : Shape := ⟨3, ![1, 1, 2048]⟩
abbrev S2x256x5632 : Shape := ⟨3, ![2, 256, 5632]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S1x2048x5632, .f32⟩
  | .hbm, ⟨13, _⟩ => ⟨S2048x5632, .f32⟩
  | .hbm, ⟨14, _⟩ => ⟨S1x2048x5632, .f32⟩
  | .hbm, ⟨15, _⟩ => ⟨S2048x5632, .f32⟩
  | .hbm, ⟨16, _⟩ => ⟨S1x5632x2048, .f32⟩
  | .hbm, ⟨17, _⟩ => ⟨S5632x2048, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S_, .f32⟩
  | .hbm, ⟨22, _⟩ => ⟨S2x4096x5632, .f32⟩
  | .hbm, ⟨23, _⟩ => ⟨S2x4096x5632, .f32⟩
  | .hbm, ⟨24, _⟩ => ⟨S_, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2048, .f32⟩
  | .hbm, ⟨36, _⟩ => ⟨S1x2048x5632, .f32⟩
  | .hbm, ⟨37, _⟩ => ⟨S2048x5632, .f32⟩
  | .hbm, ⟨38, _⟩ => ⟨S1x2048x5632, .f32⟩
  | .hbm, ⟨39, _⟩ => ⟨S2048x5632, .f32⟩
  | .hbm, ⟨40, _⟩ => ⟨S1x5632x2048, .f32⟩
  | .hbm, ⟨41, _⟩ => ⟨S5632x2048, .f32⟩
  | .hbm, ⟨42, _⟩ => ⟨S2x256x5632, .f32⟩
  | .hbm, ⟨43, _⟩ => ⟨S2x256x5632, .f32⟩
  | .hbm, ⟨44, _⟩ => ⟨S2x256x5632, .f32⟩
  | .hbm, ⟨45, _⟩ => ⟨S_, .f32⟩
  | .hbm, ⟨46, _⟩ => ⟨S2x256x5632, .f32⟩
  | .hbm, ⟨47, _⟩ => ⟨S2x256x5632, .f32⟩
  | .hbm, ⟨48, _⟩ => ⟨S_, .f32⟩
  | .hbm, ⟨49, _⟩ => ⟨S2x256x5632, .f32⟩
  | .hbm, ⟨50, _⟩ => ⟨S2x256x5632, .f32⟩
  | .hbm, ⟨51, _⟩ => ⟨S2x256x5632, .f32⟩
  | .hbm, ⟨52, _⟩ => ⟨S2x256x5632, .f32⟩
  | .hbm, ⟨53, _⟩ => ⟨S2x256x5632, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S2x256x2048, .f32⟩
  | .hbm, ⟨59, _⟩ => ⟨S8192x2048, .f32⟩
  | .hbm, ⟨60, _⟩ => ⟨S512x2048, .f32⟩
  | .hbm, ⟨61, _⟩ => ⟨S8704x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Out.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048x2048 : Shape := ⟨2, ![2048, 2048]⟩
abbrev S2048 : Shape := ⟨1, ![2048]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S8192x2048, .f32⟩
  | .hbm, ⟨11, _⟩ => ⟨S8192x2048, .bf16⟩
  | .hbm, ⟨12, _⟩ => ⟨S512x2048, .f32⟩
  | .hbm, ⟨13, _⟩ => ⟨S512x2048, .bf16⟩
  | .hbm, ⟨14, _⟩ => ⟨S2048x2048, .bf16⟩
  | .hbm, ⟨15, _⟩ => ⟨S1x2048, .f32⟩
  | .hbm, ⟨16, _⟩ => ⟨S8704x2048, .f32⟩
  | .hbm, ⟨17, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048x2048 : Shape := ⟨2, ![2048, 2048]⟩
abbrev S2048 : Shape := ⟨1, ![2048]⟩
abbrev S2x1x2048 : Shape := ⟨3, ![2, 1, 2048]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x256 : Shape := ⟨2, ![2, 256]⟩
abbrev S2x256x1 : Shape := ⟨3, ![2, 256, 1]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S2048x2048, .f32⟩
  | .hbm, ⟨6, _⟩ => ⟨S2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S1x1x2048, .f32⟩
  | .hbm, ⟨44, _⟩ => ⟨S2048, .f32⟩
  | .hbm, ⟨45, _⟩ => ⟨S2x256x2048, .f32⟩
  | .hbm, ⟨46, _⟩ => ⟨S1x1x2048, .f32⟩
  | .hbm, ⟨47, _⟩ => ⟨S2x256x2048, .f32⟩
  | .hbm, ⟨48, _⟩ => ⟨S2x256x2048, .f32⟩
  | .hbm, ⟨49, _⟩ => ⟨S2x256x2048, .f32⟩
  | .hbm, ⟨50, _⟩ => ⟨S2x256x2048, .f32⟩
  | .hbm, ⟨51, _⟩ => ⟨S_, .f32⟩
  | .hbm, ⟨52, _⟩ => ⟨S2x256, .f32⟩
  | .hbm, ⟨53, _⟩ => ⟨S2x256x1, .f32⟩
  | .hbm, ⟨54, _⟩ => ⟨S_, .f32⟩
  | .hbm, ⟨55, _⟩ => ⟨S2x256x1, .f32⟩
  | .hbm, ⟨56, _⟩ => ⟨S2x256x1, .f32⟩
  | .hbm, ⟨57, _⟩ => ⟨S_, .f32⟩
  | .hbm, ⟨58, _⟩ => ⟨S2x256x1, .f32⟩
  | .hbm, ⟨59, _⟩ => ⟨S2x256x1, .f32⟩
  | .hbm, ⟨60, _⟩ => ⟨S2x256x1, .f32⟩
  | .hbm, ⟨61, _⟩ => ⟨S2x256x2048, .f32⟩
  | .hbm, ⟨62, _⟩ => ⟨S2x256x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2048, .f32⟩
  | .hbm, ⟨68, _⟩ => ⟨S1x1x2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x1x2048, .f32⟩
  | .hbm, ⟨74, _⟩ => ⟨S2x256x2048, .f32⟩
  | .hbm, ⟨75, _⟩ => ⟨S2x256x2048, .f32⟩
  | .hbm, ⟨76, _⟩ => ⟨S1x1x2048, .f32⟩
  | .hbm, ⟨77, _⟩ => ⟨S2x256x2048, .f32⟩
  | .hbm, ⟨78, _⟩ => ⟨S2x256x2048, .f32⟩
  | .hbm, ⟨79, _⟩ => ⟨S8192x2048, .f32⟩
  | .hbm, ⟨80, _⟩ => ⟨S512x2048, .f32⟩
  | .hbm, ⟨81, _⟩ => ⟨S8704x2048, .f32⟩
  | .hbm, ⟨82, _⟩ => ⟨S8192x2048, .f32⟩
  | .hbm, ⟨83, _⟩ => ⟨S512x2048, .f32⟩
  | .hbm, ⟨84, _⟩ => ⟨S8704x2048, .f32⟩
  | .hbm, ⟨85, _⟩ => ⟨S8704x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Nat.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048 : Shape := ⟨1, ![2048]⟩
abbrev S2048x2048 : Shape := ⟨2, ![2048, 2048]⟩
abbrev S8192x2048 : Shape := ⟨2, ![8192, 2048]⟩
abbrev S512x2048 : Shape := ⟨2, ![512, 2048]⟩
abbrev S8704x2048 : Shape := ⟨2, ![8704, 2048]⟩
abbrev S1x2048x2048 : Shape := ⟨3, ![1, 2048, 2048]⟩
abbrev S3x2048x2048 : Shape := ⟨3, ![3, 2048, 2048]⟩
abbrev S1x2048 : Shape := ⟨2, ![1, 2048]⟩
abbrev S3x8704x2048 : Shape := ⟨3, ![3, 8704, 2048]⟩
abbrev S1x6x2048 : Shape := ⟨3, ![1, 6, 2048]⟩
abbrev S3x512x2048 : Shape := ⟨3, ![3, 512, 2048]⟩
abbrev S1x1x2048 : Shape := ⟨3, ![1, 1, 2048]⟩
abbrev S512 : Shape := ⟨1, ![512]⟩
abbrev S512x1 : Shape := ⟨2, ![512, 1]⟩
abbrev S1x512x2048 : Shape := ⟨3, ![1, 512, 2048]⟩

abbrev nBuf : Space → Nat
  | .hbm => 17
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S3x6x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S3x2048x2048, .f32⟩
  | .hbm, ⟨14, _⟩ => ⟨S3x2048x2048, .bf16⟩
  | .hbm, ⟨15, _⟩ => ⟨S1x2048, .f32⟩
  | .hbm, ⟨16, _⟩ => ⟨S3x8704x2048, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S3x2048x2048, .bf16⟩
  | .local _ .vmem, ⟨6, _⟩ => ⟨S3x512x2048, .bf16⟩
  | .local _ .vmem, ⟨7, _⟩ => ⟨S3x512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NatReferenceIdeal.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048 : Shape := ⟨1, ![2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256 : Shape := ⟨2, ![2, 256]⟩
abbrev S2x256x1 : Shape := ⟨3, ![2, 256, 1]⟩
abbrev S8192x2048 : Shape := ⟨2, ![8192, 2048]⟩
abbrev S512x2048 : Shape := ⟨2, ![512, 2048]⟩
abbrev S8704x2048 : Shape := ⟨2, ![8704, 2048]⟩
abbrev S1x8704x2048 : Shape := ⟨3, ![1, 8704, 2048]⟩
abbrev S3x8704x2048 : Shape := ⟨3, ![3, 8704, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S3x6x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x1x2048, .f32⟩
  | .hbm, ⟨24, _⟩ => ⟨S2x2048, .f32⟩
  | .hbm, ⟨25, _⟩ => ⟨S2x1x2048, .f32⟩
  | .hbm, ⟨26, _⟩ => ⟨S2x1x2048, .f32⟩
  | .hbm, ⟨27, _⟩ => ⟨S2x2048, .f32⟩
  | .hbm, ⟨28, _⟩ => ⟨S2x1x2048, .f32⟩
  | .hbm, ⟨29, _⟩ => ⟨S_, .f32⟩
  | .hbm, ⟨30, _⟩ => ⟨S2x1x2048, .f32⟩
  | .hbm, ⟨31, _⟩ => ⟨S2x1x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x256x2048, .f32⟩
  | .hbm, ⟨37, _⟩ => ⟨S_, .f32⟩
  | .hbm, ⟨38, _⟩ => ⟨S2x256, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S2x256x1, .f32⟩
  | .hbm, ⟨47, _⟩ => ⟨S2x256x2048, .f32⟩
  | .hbm, ⟨48, _⟩ => ⟨S2x256x2048, .f32⟩
  | .hbm, ⟨49, _⟩ => ⟨S1x1x2048, .f32⟩
  | .hbm, ⟨50, _⟩ => ⟨S2x256x2048, .f32⟩
  | .hbm, ⟨51, _⟩ => ⟨S2x256x2048, .f32⟩
  | .hbm, ⟨52, _⟩ => ⟨S1x1x2048, .f32⟩
  | .hbm, ⟨53, _⟩ => ⟨S2048, .f32⟩
  | .hbm, ⟨54, _⟩ => ⟨S1x1x2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S1x1x2048, .f32⟩
  | .hbm, ⟨63, _⟩ => ⟨S2x256x2048, .f32⟩
  | .hbm, ⟨64, _⟩ => ⟨S2x256x2048, .f32⟩
  | .hbm, ⟨65, _⟩ => ⟨S2x4096x2048, .f32⟩
  | .hbm, ⟨66, _⟩ => ⟨S2x256x2048, .f32⟩
  | .hbm, ⟨67, _⟩ => ⟨S8192x2048, .f32⟩
  | .hbm, ⟨68, _⟩ => ⟨S512x2048, .f32⟩
  | .hbm, ⟨69, _⟩ => ⟨S8704x2048, .f32⟩
  | .hbm, ⟨70, _⟩ => ⟨S_, .f32⟩
  | .hbm, ⟨71, _⟩ => ⟨S8704x2048, .f32⟩
  | .hbm, ⟨72, _⟩ => ⟨S8704x2048, .f32⟩
  | .hbm, ⟨73, _⟩ => ⟨S2x4096x2048, .f32⟩
  | .hbm, ⟨74, _⟩ => ⟨S2x256x2048, .f32⟩
  | .hbm, ⟨75, _⟩ => ⟨S8192x2048, .f32⟩
  | .hbm, ⟨76, _⟩ => ⟨S512x2048, .f32⟩
  | .hbm, ⟨77, _⟩ => ⟨S8704x2048, .f32⟩
  | .hbm, ⟨78, _⟩ => ⟨S2x4096x2048, .f32⟩
  | .hbm, ⟨79, _⟩ => ⟨S2x256x2048, .f32⟩
  | .hbm, ⟨80, _⟩ => ⟨S8192x2048, .f32⟩
  | .hbm, ⟨81, _⟩ => ⟨S512x2048, .f32⟩
  | .hbm, ⟨82, _⟩ => ⟨S8704x2048, .f32⟩
  | .hbm, ⟨83, _⟩ => ⟨S1x8704x2048, .f32⟩
  | .hbm, ⟨84, _⟩ => ⟨S1x8704x2048, .f32⟩
  | .hbm, ⟨85, _⟩ => ⟨S1x8704x2048, .f32⟩
  | .hbm, ⟨86, _⟩ => ⟨S3x8704x2048, .f32⟩
  | .hbm, ⟨87, _⟩ => ⟨S3x8704x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Gqa.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048 : Shape := ⟨1, ![2048]⟩
abbrev S2048x2048 : Shape := ⟨2, ![2048, 2048]⟩
abbrev S2048x512 : Shape := ⟨2, ![2048, 512]⟩
abbrev S128 : Shape := ⟨1, ![128]⟩
abbrev S2 : Shape := ⟨1, ![2]⟩
abbrev S8192x2048 : Shape := ⟨2, ![8192, 2048]⟩
abbrev S512x2048 : Shape := ⟨2, ![512, 2048]⟩
abbrev S8704x2048 : Shape := ⟨2, ![8704, 2048]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S1x128 : Shape := ⟨2, ![1, 128]⟩
abbrev S256x128 : Shape := ⟨2, ![256, 128]⟩
abbrev S4352x128 : Shape := ⟨2, ![4352, 128]⟩
abbrev S2048x3072 : Shape := ⟨2, ![2048, 3072]⟩
abbrev S1x2048 : Shape := ⟨2, ![1, 2048]⟩
abbrev S8704x512 : Shape := ⟨2, ![8704, 512]⟩
abbrev S256x2048 : Shape := ⟨2, ![256, 2048]⟩
abbrev S1x6x2048 : Shape := ⟨3, ![1, 6, 2048]⟩
abbrev S256x512 : Shape := ⟨2, ![256, 512]⟩
abbrev S1x1x2048 : Shape := ⟨3, ![1, 1, 2048]⟩
abbrev S256 : Shape := ⟨1, ![256]⟩
abbrev S256x1 : Shape := ⟨2, ![256, 1]⟩
abbrev S256x3072 : Shape := ⟨2, ![256, 3072]⟩

abbrev nBuf : Space → Nat
  | .hbm => 107
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S3x6x2048, .f32⟩
  | .hbm, ⟨3, _⟩ => ⟨S2048, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S128, .f32⟩
  | .hbm, ⟨8, _⟩ => ⟨S128, .f32⟩
  | .hbm, ⟨9, _⟩ => ⟨S2, .f32⟩
  | .hbm, ⟨10, _⟩ => ⟨S8192x2048, .f32⟩
  | .hbm, ⟨11, _⟩ => ⟨S512x2048, .f32⟩
  | .hbm, ⟨12, _⟩ => ⟨S8704x2048, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S_, .i1⟩
  | .hbm, ⟨49, _⟩ => ⟨S4096, .i1⟩
  | .hbm, ⟨50, _⟩ => ⟨S4096, .i1⟩
  | .hbm, ⟨51, _⟩ => ⟨S4096, .i1⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S4096x1, .f32⟩
  | .hbm, ⟨71, _⟩ => ⟨S1x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x1, .f32⟩
  | .hbm, ⟨76, _⟩ => ⟨S1x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x64, .f32⟩
  | .hbm, ⟨81, _⟩ => ⟨S4096x64, .f32⟩
  | .hbm, ⟨82, _⟩ => ⟨S4096x64x2, .f32⟩
  | .hbm, ⟨83, _⟩ => ⟨S4096x128, .f32⟩
  | .hbm, ⟨84, _⟩ => ⟨S1x2, .f32⟩
  | .hbm, ⟨85, _⟩ => ⟨S64x2, .f32⟩
  | .hbm, ⟨86, _⟩ => ⟨S128, .f32⟩
  | .hbm, ⟨87, _⟩ => ⟨S4096x64, .f32⟩
  | .hbm, ⟨88, _⟩ => ⟨S4096x64x2, .f32⟩
  | .hbm, ⟨89, _⟩ => ⟨S4096x128, .f32⟩
  | .hbm, ⟨90, _⟩ => ⟨S1x128, .f32⟩
  | .hbm, ⟨91, _⟩ => ⟨S4096x128, .f32⟩
  | .hbm, ⟨92, _⟩ => ⟨S4096x128, .f32⟩
  | .hbm, ⟨93, _⟩ => ⟨S_, .f32⟩
  | .hbm, ⟨94, _⟩ => ⟨S256x128, .f32⟩
  | .hbm, ⟨95, _⟩ => ⟨S4352x128, .f32⟩
  | .hbm, ⟨96, _⟩ => ⟨S_, .f32⟩
  | .hbm, ⟨97, _⟩ => ⟨S256x128, .f32⟩
  | .hbm, ⟨98, _⟩ => ⟨S4352x128, .f32⟩
  | .hbm, ⟨99, _⟩ => ⟨S2048x3072, .f32⟩
  | .hbm, ⟨100, _⟩ => ⟨S2048x3072, .bf16⟩
  | .hbm, ⟨101, _⟩ => ⟨S1x2048, .f32⟩
  | .hbm, ⟨102, _⟩ => ⟨S1x128, .f32⟩
  | .hbm, ⟨103, _⟩ => ⟨S1x128, .f32⟩
  | .hbm, ⟨104, _⟩ => ⟨S8704x2048, .bf16⟩
  | .hbm, ⟨105, _⟩ => ⟨S8704x512, .bf16⟩
  | .hbm, ⟨106, _⟩ => ⟨S8704x512, .bf16⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x3072, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_cst_1 : Ref sig .tc := ⟨.hbm, 57, rfl⟩
abbrev main_v9 : Ref sig .tc := ⟨.hbm, 58, rfl⟩
abbrev main_v10 : Ref sig .tc := ⟨.hbm, 59, rfl⟩
abbrev main_cst_2 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_cst_3 : Ref sig .tc := ⟨.hbm, 64, rfl⟩
abbrev main_v14 : Ref sig .tc := ⟨.hbm, 65, rfl⟩
abbrev main_v15 : Ref sig .tc := ⟨.hbm, 66, rfl⟩
abbrev main_cst_4 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_5 : Ref sig .tc := ⟨.hbm, 93, rfl⟩
abbrev main_v41 : Ref sig .tc := ⟨.hbm, 94, rfl⟩
abbrev main_v42 : Ref sig .tc := ⟨.hbm, 95, rfl⟩
abbrev main_cst_6 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50_0 : Ref sig .tc := ⟨.hbm, 104, rfl⟩
abbrev main_v50_1 : Ref sig .tc := ⟨.hbm, 105, rfl⟩
abbrev main_v50_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GqaReferenceIdeal.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S2048 : Shape := ⟨1, ![2048]⟩
abbrev S2048x2048 : Shape := ⟨2, ![2048, 2048]⟩
abbrev S2048x512 : Shape := ⟨2, ![2048, 512]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256 : Shape := ⟨2, ![2, 256]⟩
abbrev S2x256x1 : Shape := ⟨3, ![2, 256, 1]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S2x4096x16x128 : Shape := ⟨4, ![2, 4096, 16, 128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S2x4096x512 : Shape := ⟨3, ![2, 4096, 512]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S2x256x16x128 : Shape := ⟨4, ![2, 256, 16, 128]⟩
abbrev S2x256x16 : Shape := ⟨3, ![2, 256, 16]⟩
abbrev S2x256x16x1 : Shape := ⟨4, ![2, 256, 16, 1]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4096x16x64x2 : Shape := ⟨5, ![2, 4096, 16, 64, 2]⟩
abbrev S2x4096x16x64x1 : Shape := ⟨5, ![2, 4096, 16, 64, 1]⟩
abbrev S2x4096x16x64 : Shape := ⟨4, ![2, 4096, 16, 64]⟩
abbrev S8192x2048 : Shape := ⟨2, ![8192, 2048]⟩
abbrev S512x2048 : Shape := ⟨2, ![512, 2048]⟩
abbrev S8704x2048 : Shape := ⟨2, ![8704, 2048]⟩
abbrev S2x4096x4x64x2 : Shape := ⟨5, ![2, 4096, 4, 64, 2]⟩
abbrev S2x4096x4x64x1 : Shape := ⟨5, ![2, 4096, 4, 64, 1]⟩
abbrev S2x4096x4x64 : Shape := ⟨4, ![2, 4096, 4, 64]⟩
abbrev S8192x512 : Shape := ⟨2, ![8192, 512]⟩
abbrev S512x512 : Shape := ⟨2, ![512, 512]⟩
abbrev S8704x512 : Shape := ⟨2, ![8704, 512]⟩

abbrev nBuf : Space → Nat
  | .hbm => 270
  | .vmem => 0
  | .smem => 0
  | _ => 0

abbrev hbmTy0_0 (i : Nat) : BufTy := match i % 128 with
  | 0 => ⟨S2x4096x2048, .f32⟩
  | 1 => ⟨S2x256x2048, .f32⟩
  | 2 => ⟨S3x6x2048, .f32⟩
  | 3 => ⟨S2048, .f32⟩
  | 4 => ⟨S2048x2048, .f32⟩
  | 5 => ⟨S2048x512, .f32⟩
  | 6 => ⟨S2048x512, .f32⟩
  | 7 => ⟨S128, .f32⟩
  | 8 => ⟨S128, .f32⟩
  | 9 => ⟨S2x4096x2048, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S_, .f32⟩
  | 17 => ⟨S2x4096x1, .f32⟩
  | 18 => ⟨S2x4096x1, .f32⟩
  | 19 => ⟨S2x4096x1, .f32⟩
  | 20 => ⟨S2x4096x2048, .f32⟩
  | 21 => ⟨S2x4096x2048, .f32⟩
  | 22 => ⟨S1x1x2048, .f32⟩
  | 23 => ⟨S2x4096x2048, .f32⟩
  | 24 => ⟨S2x4096x2048, .f32⟩
  | 25 => ⟨S2x1x2048, .f32⟩
  | 26 => ⟨S2x2048, .f32⟩
  | 27 => ⟨S2x1x2048, .f32⟩
  | 28 => ⟨S2x1x2048, .f32⟩
  | 29 => ⟨S2x2048, .f32⟩
  | 30 => ⟨S2x1x2048, .f32⟩
  | 31 => ⟨S_, .f32⟩
  | 32 => ⟨S2x1x2048, .f32⟩
  | 33 => ⟨S2x1x2048, .f32⟩
  | 34 => ⟨S2x4096x2048, .f32⟩
  | 35 => ⟨S2x4096x2048, .f32⟩
  | 36 => ⟨S2x4096x2048, .f32⟩
  | 37 => ⟨S2x4096x2048, .f32⟩
  | 38 => ⟨S2x256x2048, .f32⟩
  | 39 => ⟨S_, .f32⟩
  | 40 => ⟨S2x256, .f32⟩
  | 41 => ⟨S2x256x1, .f32⟩
  | 42 => ⟨S_, .f32⟩
  | 43 => ⟨S2x256x1, .f32⟩
  | 44 => ⟨S2x256x1, .f32⟩
  | 45 => ⟨S_, .f32⟩
  | 46 => ⟨S2x256x1, .f32⟩
  | 47 => ⟨S2x256x1, .f32⟩
  | 48 => ⟨S2x256x1, .f32⟩
  | 49 => ⟨S2x256x2048, .f32⟩
  | 50 => ⟨S2x256x2048, .f32⟩
  | 51 => ⟨S1x1x2048, .f32⟩
  | 52 => ⟨S2x256x2048, .f32⟩
  | 53 => ⟨S2x256x2048, .f32⟩
  | 54 => ⟨S1x1x2048, .f32⟩
  | 55 => ⟨S2048, .f32⟩
  | 56 => ⟨S1x1x2048, .f32⟩
  | 57 => ⟨S2048, .f32⟩
  | 58 => ⟨S_, .f32⟩
  | 59 => ⟨S2048, .f32⟩
  | 60 => ⟨S2048, .f32⟩
  | 61 => ⟨S1x1x2048, .f32⟩
  | 62 => ⟨S2x256x2048, .f32⟩
  | 63 => ⟨S2x256x2048, .f32⟩
  | 64 => ⟨S1x1x2048, .f32⟩
  | 65 => ⟨S2x256x2048, .f32⟩
  | 66 => ⟨S2x256x2048, .f32⟩
  | 67 => ⟨S4096, .i32⟩
  | 68 => ⟨S_, .i32⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i1⟩
  | 76 => ⟨S4096, .i32⟩
  | 77 => ⟨S4096, .i32⟩
  | 78 => ⟨S_, .i32⟩
  | 79 => ⟨S4096, .i32⟩
  | 80 => ⟨S4096, .i1⟩
  | 81 => ⟨S4096, .i1⟩
  | 82 => ⟨S_, .i32⟩
  | 83 => ⟨S4096, .i32⟩
  | 84 => ⟨S4096, .i32⟩
  | 85 => ⟨S4096, .i32⟩
  | 86 => ⟨S4096, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i1⟩
  | 101 => ⟨S_, .i32⟩
  | 102 => ⟨S_, .i1⟩
  | 103 => ⟨S4096, .i1⟩
  | 104 => ⟨S4096, .i1⟩
  | 105 => ⟨S4096, .i1⟩
  | 106 => ⟨S4096, .i32⟩
  | 107 => ⟨S4096, .i32⟩
  | 108 => ⟨S4096, .i32⟩
  | 109 => ⟨S4096, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S4096x1, .f32⟩
  | 125 => ⟨S1x32, .f32⟩
  | 126 => ⟨S4096x32, .f32⟩
  | 127 => ⟨S4096x32, .f32⟩
  | _ => ⟨S2x4096x2048, .f32⟩

abbrev hbmTy0_1 (i : Nat) : BufTy := match i % 128 with
  | 0 => ⟨S4096x32, .f32⟩
  | 1 => ⟨S4096x1, .f32⟩
  | 2 => ⟨S1x32, .f32⟩
  | 3 => ⟨S4096x32, .f32⟩
  | 4 => ⟨S4096x32, .f32⟩
  | 5 => ⟨S4096x32, .f32⟩
  | 6 => ⟨S4096x64, .f32⟩
  | 7 => ⟨S4096x64, .f32⟩
  | 8 => ⟨S1x4096x1x64, .f32⟩
  | 9 => ⟨S4096x64, .f32⟩
  | 10 => ⟨S1x4096x1x64, .f32⟩
  | 11 => ⟨S2x4096x2048, .f32⟩
  | 12 => ⟨S2x4096x16x128, .f32⟩
  | 13 => ⟨S2x4096x16x128, .f32⟩
  | 14 => ⟨S_, .f32⟩
  | 15 => ⟨S2x4096x16, .f32⟩
  | 16 => ⟨S2x4096x16x1, .f32⟩
  | 17 => ⟨S_, .f32⟩
  | 18 => ⟨S2x4096x16x1, .f32⟩
  | 19 => ⟨S2x4096x16x1, .f32⟩
  | 20 => ⟨S_, .f32⟩
  | 21 => ⟨S2x4096x16x1, .f32⟩
  | 22 => ⟨S2x4096x16x1, .f32⟩
  | 23 => ⟨S2x4096x16x1, .f32⟩
  | 24 => ⟨S2x4096x16x128, .f32⟩
  | 25 => ⟨S2x4096x16x128, .f32⟩
  | 26 => ⟨S1x1x1x128, .f32⟩
  | 27 => ⟨S2x4096x16x128, .f32⟩
  | 28 => ⟨S2x4096x16x128, .f32⟩
  | 29 => ⟨S2x4096x512, .f32⟩
  | 30 => ⟨S2x4096x4x128, .f32⟩
  | 31 => ⟨S2x4096x4x128, .f32⟩
  | 32 => ⟨S_, .f32⟩
  | 33 => ⟨S2x4096x4, .f32⟩
  | 34 => ⟨S2x4096x4x1, .f32⟩
  | 35 => ⟨S_, .f32⟩
  | 36 => ⟨S2x4096x4x1, .f32⟩
  | 37 => ⟨S2x4096x4x1, .f32⟩
  | 38 => ⟨S_, .f32⟩
  | 39 => ⟨S2x4096x4x1, .f32⟩
  | 40 => ⟨S2x4096x4x1, .f32⟩
  | 41 => ⟨S2x4096x4x1, .f32⟩
  | 42 => ⟨S2x4096x4x128, .f32⟩
  | 43 => ⟨S2x4096x4x128, .f32⟩
  | 44 => ⟨S1x1x1x128, .f32⟩
  | 45 => ⟨S2x4096x4x128, .f32⟩
  | 46 => ⟨S2x4096x4x128, .f32⟩
  | 47 => ⟨S2x4096x512, .f32⟩
  | 48 => ⟨S2x256x2048, .f32⟩
  | 49 => ⟨S2x256x16x128, .f32⟩
  | 50 => ⟨S2x256x16x128, .f32⟩
  | 51 => ⟨S_, .f32⟩
  | 52 => ⟨S2x256x16, .f32⟩
  | 53 => ⟨S2x256x16x1, .f32⟩
  | 54 => ⟨S_, .f32⟩
  | 55 => ⟨S2x256x16x1, .f32⟩
  | 56 => ⟨S2x256x16x1, .f32⟩
  | 57 => ⟨S_, .f32⟩
  | 58 => ⟨S2x256x16x1, .f32⟩
  | 59 => ⟨S2x256x16x1, .f32⟩
  | 60 => ⟨S2x256x16x1, .f32⟩
  | 61 => ⟨S2x256x16x128, .f32⟩
  | 62 => ⟨S2x256x16x128, .f32⟩
  | 63 => ⟨S1x1x1x128, .f32⟩
  | 64 => ⟨S2x256x16x128, .f32⟩
  | 65 => ⟨S2x256x16x128, .f32⟩
  | 66 => ⟨S2x256x512, .f32⟩
  | 67 => ⟨S2x256x4x128, .f32⟩
  | 68 => ⟨S2x256x4x128, .f32⟩
  | 69 => ⟨S_, .f32⟩
  | 70 => ⟨S2x256x4, .f32⟩
  | 71 => ⟨S2x256x4x1, .f32⟩
  | 72 => ⟨S_, .f32⟩
  | 73 => ⟨S2x256x4x1, .f32⟩
  | 74 => ⟨S2x256x4x1, .f32⟩
  | 75 => ⟨S_, .f32⟩
  | 76 => ⟨S2x256x4x1, .f32⟩
  | 77 => ⟨S2x256x4x1, .f32⟩
  | 78 => ⟨S2x256x4x1, .f32⟩
  | 79 => ⟨S2x256x4x128, .f32⟩
  | 80 => ⟨S2x256x4x128, .f32⟩
  | 81 => ⟨S1x1x1x128, .f32⟩
  | 82 => ⟨S2x256x4x128, .f32⟩
  | 83 => ⟨S2x256x4x128, .f32⟩
  | 84 => ⟨S2x256x512, .f32⟩
  | 85 => ⟨S2x4096x16x64x2, .f32⟩
  | 86 => ⟨S2x4096x16x64x1, .f32⟩
  | 87 => ⟨S2x4096x16x64, .f32⟩
  | 88 => ⟨S2x4096x16x64x1, .f32⟩
  | 89 => ⟨S2x4096x16x64, .f32⟩
  | 90 => ⟨S2x4096x16x64, .f32⟩
  | 91 => ⟨S2x4096x16x64, .f32⟩
  | 92 => ⟨S2x4096x16x64, .f32⟩
  | 93 => ⟨S2x4096x16x64, .f32⟩
  | 94 => ⟨S2x4096x16x64, .f32⟩
  | 95 => ⟨S2x4096x16x64, .f32⟩
  | 96 => ⟨S2x4096x16x64, .f32⟩
  | 97 => ⟨S2x4096x16x64, .f32⟩
  | 98 => ⟨S2x4096x16x64, .f32⟩
  | 99 => ⟨S2x4096x16x64, .f32⟩
  | 100 => ⟨S2x4096x16x64x1, .f32⟩
  | 101 => ⟨S2x4096x16x64x1, .f32⟩
  | 102 => ⟨S2x4096x16x64x2, .f32⟩
  | 103 => ⟨S2x4096x16x128, .f32⟩
  | 104 => ⟨S2x4096x2048, .f32⟩
  | 105 => ⟨S2x256x2048, .f32⟩
  | 106 => ⟨S8192x2048, .f32⟩
  | 107 => ⟨S512x2048, .f32⟩
  | 108 => ⟨S8704x2048, .f32⟩
  | 109 => ⟨S2x4096x4x64x2, .f32⟩
  | 110 => ⟨S2x4096x4x64x1, .f32⟩
  | 111 => ⟨S2x4096x4x64, .f32⟩
  | 112 => ⟨S2x4096x4x64x1, .f32⟩
  | 113 => ⟨S2x4096x4x64, .f32⟩
  | 114 => ⟨S2x4096x4x64, .f32⟩
  | 115 => ⟨S2x4096x4x64, .f32⟩
  | 116 => ⟨S2x4096x4x64, .f32⟩
  | 117 => ⟨S2x4096x4x64, .f32⟩
  | 118 => ⟨S2x4096x4x64, .f32⟩
  | 119 => ⟨S2x4096x4x64, .f32⟩
  | 120 => ⟨S2x4096x4x64, .f32⟩
  | 121 => ⟨S2x4096x4x64, .f32⟩
  | 122 => ⟨S2x4096x4x64, .f32⟩
  | 123 => ⟨S2x4096x4x64, .f32⟩
  | 124 => ⟨S2x4096x4x64x1, .f32⟩
  | 125 => ⟨S2x4096x4x64x1, .f32⟩
  | 126 => ⟨S2x4096x4x64x2, .f32⟩
  | 127 => ⟨S2x4096x4x128, .f32⟩
  | _ => ⟨S2x4096x2048, .f32⟩

abbrev hbmTy0_2 (i : Nat) : BufTy := match i % 128 with
  | 0 => ⟨S2x4096x512, .f32⟩
  | 1 => ⟨S2x256x512, .f32⟩
  | 2 => ⟨S8192x512, .f32⟩
  | 3 => ⟨S512x512, .f32⟩
  | 4 => ⟨S8704x512, .f32⟩
  | 5 => ⟨S_, .f32⟩
  | 6 => ⟨S8704x2048, .f32⟩
  | 7 => ⟨S8704x2048, .f32⟩
  | 8 => ⟨S8704x2048, .bf16⟩
  | 9 => ⟨S8704x512, .bf16⟩
  | 10 => ⟨S8192x512, .f32⟩
  | 11 => ⟨S512x512, .f32⟩
  | 12 => ⟨S8704x512, .f32⟩
  | 13 => ⟨S8704x512, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v51 : Ref sig .tc := ⟨.hbm, 85, rfl⟩
abbrev main_v52 : Ref sig .tc := ⟨.hbm, 86, rfl⟩
abbrev main_c_7 : Ref sig .tc := ⟨.hbm, 87, rfl⟩
abbrev main_call1_v0 : Ref sig .tc := ⟨.hbm, 88, rfl⟩
abbrev main_call1_c : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_c_1 : Ref sig .tc := ⟨.hbm, 95, rfl⟩
abbrev main_call1_v5 : Ref sig .tc := ⟨.hbm, 96, rfl⟩
abbrev main_call1_v6 : Ref sig .tc := ⟨.hbm, 97, rfl⟩
abbrev main_call1_c_2 : Ref sig .tc := ⟨.hbm, 98, rfl⟩
abbrev main_call1_v7 : Ref sig .tc := ⟨.hbm, 99, rfl⟩
abbrev main_call1_v8 : Ref sig .tc := ⟨.hbm, 100, rfl⟩
abbrev main_call1_c_3 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_8 : Ref sig .tc := ⟨.hbm, 111, rfl⟩
abbrev main_v56 : Ref sig .tc := ⟨.hbm, 112, rfl⟩
abbrev main_v57 : Ref sig .tc := ⟨.hbm, 113, rfl⟩
abbrev main_cst_9 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_10 : Ref sig .tc := ⟨.hbm, 118, rfl⟩
abbrev main_v61 : Ref sig .tc := ⟨.hbm, 119, rfl⟩
abbrev main_v62 : Ref sig .tc := ⟨.hbm, 120, rfl⟩
abbrev main_cst_11 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_v83 : Ref sig .tc := ⟨.hbm, 143, rfl⟩
abbrev main_v84 : Ref sig .tc := ⟨.hbm, 144, rfl⟩
abbrev main_cst_13 : Ref sig .tc := ⟨.hbm, 145, rfl⟩
abbrev main_v85 : Ref sig .tc := ⟨.hbm, 146, rfl⟩
abbrev main_v86 : Ref sig .tc := ⟨.hbm, 147, rfl⟩
abbrev main_cst_14 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_15 : Ref sig .tc := ⟨.hbm, 160, rfl⟩
abbrev main_v98 : Ref sig .tc := ⟨.hbm, 161, rfl⟩
abbrev main_v99 : Ref sig .tc := ⟨.hbm, 162, rfl⟩
abbrev main_cst_16 : Ref sig .tc := ⟨.hbm, 163, rfl⟩
abbrev main_v100 : Ref sig .tc := ⟨.hbm, 164, rfl⟩
abbrev main_v101 : Ref sig .tc := ⟨.hbm, 165, rfl⟩
abbrev main_cst_17 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_18 : Ref sig .tc := ⟨.hbm, 179, rfl⟩
abbrev main_v114 : Ref sig .tc := ⟨.hbm, 180, rfl⟩
abbrev main_v115 : Ref sig .tc := ⟨.hbm, 181, rfl⟩
abbrev main_cst_19 : Ref sig .tc := ⟨.hbm, 182, rfl⟩
abbrev main_v116 : Ref sig .tc := ⟨.hbm, 183, rfl⟩
abbrev main_v117 : Ref sig .tc := ⟨.hbm, 184, rfl⟩
abbrev main_cst_20 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_21 : Ref sig .tc := ⟨.hbm, 197, rfl⟩
abbrev main_v129 : Ref sig .tc := ⟨.hbm, 198, rfl⟩
abbrev main_v130 : Ref sig .tc := ⟨.hbm, 199, rfl⟩
abbrev main_cst_22 : Ref sig .tc := ⟨.hbm, 200, rfl⟩
abbrev main_v131 : Ref sig .tc := ⟨.hbm, 201, rfl⟩
abbrev main_v132 : Ref sig .tc := ⟨.hbm, 202, rfl⟩
abbrev main_cst_23 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_24 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩

abbrev nD : Nat := 1
abbrev τ : Topo := Topo.v7x

variable {F : FTy → Type} [FloatOps F]
-- ==== Mod.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== First.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x2048 : Shape := ⟨3, ![1, 2048, 2048]⟩
abbrev S1x2048x512 : Shape := ⟨3, ![1, 2048, 512]⟩
abbrev S8192x2048 : Shape := ⟨2, ![8192, 2048]⟩
abbrev S512x2048 : Shape := ⟨2, ![512, 2048]⟩
abbrev S8704x2048 : Shape := ⟨2, ![8704, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x3072 : Shape := ⟨2, ![2048, 3072]⟩
abbrev S2048x2048 : Shape := ⟨2, ![2048, 2048]⟩
abbrev S3x2048x2048 : Shape := ⟨3, ![3, 2048, 2048]⟩
abbrev S1x6x2048 : Shape := ⟨3, ![1, 6, 2048]⟩
abbrev S1x512x2048 : Shape := ⟨3, ![1, 512, 2048]⟩
abbrev S1x16x2048 : Shape := ⟨3, ![1, 16, 2048]⟩
abbrev S1x16x512 : Shape := ⟨3, ![1, 16, 512]⟩
abbrev S16x3072 : Shape := ⟨2, ![16, 3072]⟩
abbrev S16x2048 : Shape := ⟨2, ![16, 2048]⟩
abbrev S3x16x2048 : Shape := ⟨3, ![3, 16, 2048]⟩
abbrev S16x512 : Shape := ⟨2, ![16, 512]⟩
abbrev S2048x512 : Shape := ⟨2, ![2048, 512]⟩
abbrev S512x512 : Shape := ⟨2, ![512, 512]⟩
abbrev S1x1x2048 : Shape := ⟨3, ![1, 1, 2048]⟩

abbrev nBuf : Space → Nat
  | .hbm => 36
  | .vmem => 39
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S2048, .f32⟩
  | .hbm, ⟨9, _⟩ => ⟨S1x2048x2048, .f32⟩
  | .hbm, ⟨10, _⟩ => ⟨S1x2048x512, .f32⟩
  | .hbm, ⟨11, _⟩ => ⟨S1x2048x512, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S8192x2048, .f32⟩
  | .hbm, ⟨18, _⟩ => ⟨S512x2048, .f32⟩
  | .hbm, ⟨19, _⟩ => ⟨S8704x2048, .f32⟩
  | .hbm, ⟨20, _⟩ => ⟨S8192x2048, .f32⟩
  | .hbm, ⟨21, _⟩ => ⟨S512x2048, .f32⟩
  | .hbm, ⟨22, _⟩ => ⟨S8704x2048, .f32⟩
  | .hbm, ⟨23, _⟩ => ⟨S8704x2048, .bf16⟩
  | .hbm, ⟨24, _⟩ => ⟨S1x2048x5632, .f32⟩
  | .hbm, ⟨25, _⟩ => ⟨S1x2048x5632, .bf16⟩
  | .hbm, ⟨26, _⟩ => ⟨S1x2048x5632, .f32⟩
  | .hbm, ⟨27, _⟩ => ⟨S1x2048x5632, .bf16⟩
  | .hbm, ⟨28, _⟩ => ⟨S1x5632x2048, .f32⟩
  | .hbm, ⟨29, _⟩ => ⟨S1x5632x2048, .bf16⟩
  | .hbm, ⟨30, _⟩ => ⟨S1x2048, .f32⟩
  | .hbm, ⟨31, _⟩ => ⟨S8704x2048, .f32⟩
  | .hbm, ⟨32, _⟩ => ⟨S2048x3072, .bf16⟩
  | .hbm, ⟨33, _⟩ => ⟨S2048x2048, .bf16⟩
  | .hbm, ⟨34, _⟩ => ⟨S3x2048x2048, .bf16⟩
  | .hbm, ⟨35, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x6x2048, .f32⟩
  | .local _ .vmem, ⟨5, _⟩ => ⟨S1x6x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048, .f32⟩
  | .local _ .vmem, ⟨13, _⟩ => ⟨S1x16x2048, .f32⟩
  | .local _ .vmem, ⟨14, _⟩ => ⟨S1x16x2048, .f32⟩
  | .local _ .vmem, ⟨15, _⟩ => ⟨S1x16x512, .f32⟩
  | .local _ .vmem, ⟨16, _⟩ => ⟨S1x16x512, .f32⟩
  | .local _ .vmem, ⟨17, _⟩ => ⟨S1x16x512, .f32⟩
  | .local _ .vmem, ⟨18, _⟩ => ⟨S1x16x512, .f32⟩
  | .local _ .vmem, ⟨19, _⟩ => ⟨S1x16x2048, .f32⟩
  | .local _ .vmem, ⟨20, _⟩ => ⟨S1x16x2048, .f32⟩
  | .local _ .vmem, ⟨21, _⟩ => ⟨S1x16x2048, .f32⟩
  | .local _ .vmem, ⟨22, _⟩ => ⟨S1x16x2048, .f32⟩
  | .local _ .vmem, ⟨23, _⟩ => ⟨S1x16x2048, .f32⟩
  | .local _ .vmem, ⟨24, _⟩ => ⟨S1x16x2048, .f32⟩
  | .local _ .vmem, ⟨25, _⟩ => ⟨S1x16x2048, .f32⟩
  | .local _ .vmem, ⟨26, _⟩ => ⟨S1x16x2048, .f32⟩
  | .local _ .vmem, ⟨27, _⟩ => ⟨S1x16x2048, .f32⟩
  | .local _ .vmem, ⟨28, _⟩ => ⟨S1x16x2048, .f32⟩
  | .local _ .vmem, ⟨29, _⟩ => ⟨S512x2048, .f32⟩
  | .local _ .vmem, ⟨30, _⟩ => ⟨S512x2048, .f32⟩
  | .local _ .vmem, ⟨31, _⟩ => ⟨S16x3072, .bf16⟩
  | .local _ .vmem, ⟨32, _⟩ => ⟨S16x3072, .bf16⟩
  | .local _ .vmem, ⟨33, _⟩ => ⟨S16x2048, .bf16⟩
  | .local _ .vmem, ⟨34, _⟩ => ⟨S16x2048, .bf16⟩
  | .local _ .vmem, ⟨35, _⟩ => ⟨S3x16x2048, .bf16⟩
  | .local _ .vmem, ⟨36, _⟩ => ⟨S3x16x2048, .bf16⟩
  | .local _ .vmem, ⟨37, _⟩ => ⟨S16x2048, .bf16⟩
  | .local _ .vmem, ⟨38, _⟩ => ⟨S16x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_18 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_19 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S16x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S3x16x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S16x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== FirstReferenceIdeal.lean ====
abbrev S2x4096x2048 : Shape := ⟨3, ![2, 4096, 2048]⟩
abbrev S2x256x2048 : Shape := ⟨3, ![2, 256, 2048]⟩
abbrev S3x6x2048 : Shape := ⟨3, ![3, 6, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x2048 : Shape := ⟨3, ![1, 2048, 2048]⟩
abbrev S1x2048x512 : Shape := ⟨3, ![1, 2048, 512]⟩
abbrev S2x1x2048 : Shape := ⟨3, ![2, 1, 2048]⟩
abbrev S2x2048 : Shape := ⟨2, ![2, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x4096x5632 : Shape := ⟨3, ![2, 4096, 5632]⟩
abbrev S_ : Shape := ⟨0, ![]⟩
abbrev S1x1x2048 : Shape := ⟨3, ![1, 1, 2048]⟩
abbrev S2x256x5632 : Shape := ⟨3, ![2, 256, 5632]⟩
abbrev S8192x2048 : Shape := ⟨2, ![8192, 2048]⟩
abbrev S512x2048 : Shape := ⟨2, ![512, 2048]⟩
abbrev S8704x2048 : Shape := ⟨2, ![8704, 2048]⟩
abbrev S2048x2048 : Shape := ⟨2, ![2048, 2048]⟩
abbrev S2048x512 : Shape := ⟨2, ![2048, 512]⟩
abbrev S2048x3072 : Shape := ⟨2, ![2048, 3072]⟩
abbrev S3x2048x2048 : Shape := ⟨3, ![3, 2048, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2x4096x2048, .f32⟩
  | .hbm, ⟨3, _⟩ => ⟨S2x256x2048, .f32⟩
  | .hbm, ⟨4, _⟩ => ⟨S3x6x2048, .f32⟩
  | .hbm, ⟨5, _⟩ => ⟨S4x2048x5632, .f32⟩
  | .hbm, ⟨6, _⟩ => ⟨S4x2048x5632, .f32⟩
  | .hbm, ⟨7, _⟩ => ⟨S4x5632x2048, .f32⟩
  | .hbm, ⟨8, _⟩ => ⟨S2048, .f32⟩
  | .hbm, ⟨9, _⟩ => ⟨S1x2048x2048, .f32⟩
  | .hbm, ⟨10, _⟩ => ⟨S1x2048x512, .f32⟩
  | .hbm, ⟨11, _⟩ => ⟨S1x2048x512, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S2x1x2048, .f32⟩
  | .hbm, ⟨18, _⟩ => ⟨S2x2048, .f32⟩
  | .hbm, ⟨19, _⟩ => ⟨S2x1x2048, .f32⟩
  | .hbm, ⟨20, _⟩ => ⟨S1x2048x5632, .f32⟩
  | .hbm, ⟨21, _⟩ => ⟨S2048x5632, .f32⟩
  | .hbm, ⟨22, _⟩ => ⟨S1x2048x5632, .f32⟩
  | .hbm, ⟨23, _⟩ => ⟨S2048x5632, .f32⟩
  | .hbm, ⟨24, _⟩ => ⟨S1x5632x2048, .f32⟩
  | .hbm, ⟨25, _⟩ => ⟨S5632x2048, .f32⟩
  | .hbm, ⟨26, _⟩ => ⟨S2x4096x5632, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S_, .f32⟩
  | .hbm, ⟨33, _⟩ => ⟨S2x4096x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2048, .f32⟩
  | .hbm, ⟨44, _⟩ => ⟨S1x2048x5632, .f32⟩
  | .hbm, ⟨45, _⟩ => ⟨S2048x5632, .f32⟩
  | .hbm, ⟨46, _⟩ => ⟨S1x2048x5632, .f32⟩
  | .hbm, ⟨47, _⟩ => ⟨S2048x5632, .f32⟩
  | .hbm, ⟨48, _⟩ => ⟨S1x5632x2048, .f32⟩
  | .hbm, ⟨49, _⟩ => ⟨S5632x2048, .f32⟩
  | .hbm, ⟨50, _⟩ => ⟨S2x256x5632, .f32⟩
  | .hbm, ⟨51, _⟩ => ⟨S2x256x5632, .f32⟩
  | .hbm, ⟨52, _⟩ => ⟨S2x256x5632, .f32⟩
  | .hbm, ⟨53, _⟩ => ⟨S_, .f32⟩
  | .hbm, ⟨54, _⟩ => ⟨S2x256x5632, .f32⟩
  | .hbm, ⟨55, _⟩ => ⟨S2x256x5632, .f32⟩
  | .hbm, ⟨56, _⟩ => ⟨S_, .f32⟩
  | .hbm, ⟨57, _⟩ => ⟨S2x256x5632, .f32⟩
  | .hbm, ⟨58, _⟩ => ⟨S2x256x5632, .f32⟩
  | .hbm, ⟨59, _⟩ => ⟨S2x256x5632, .f32⟩
  | .hbm, ⟨60, _⟩ => ⟨S2x256x5632, .f32⟩
  | .hbm, ⟨61, _⟩ => ⟨S2x256x5632, .f32⟩
  | .hbm, ⟨62, _⟩ => ⟨S2x256x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S2x256x2048, .f32⟩
  | .hbm, ⟨67, _⟩ => ⟨S8192x2048, .f32⟩
  | .hbm, ⟨68, _⟩ => ⟨S512x2048, .f32⟩
  | .hbm, ⟨69, _⟩ => ⟨S8704x2048, .f32⟩
  | .hbm, ⟨70, _⟩ => ⟨S2048x2048, .f32⟩
  | .hbm, ⟨71, _⟩ => ⟨S2048x512, .f32⟩
  | .hbm, ⟨72, _⟩ => ⟨S2048x512, .f32⟩
  | .hbm, ⟨73, _⟩ => ⟨S2048x3072, .f32⟩
  | .hbm, ⟨74, _⟩ => ⟨S2048x3072, .bf16⟩
  | .hbm, ⟨75, _⟩ => ⟨S2048x2048, .f32⟩
  | .hbm, ⟨76, _⟩ => ⟨S2048x2048, .bf16⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S1x2048x2048, .f32⟩
  | .hbm, ⟨81, _⟩ => ⟨S1x2048x2048, .f32⟩
  | .hbm, ⟨82, _⟩ => ⟨S1x2048x2048, .f32⟩
  | .hbm, ⟨83, _⟩ => ⟨S3x2048x2048, .f32⟩
  | .hbm, ⟨84, _⟩ => ⟨S3x2048x2048, .bf16⟩
  | .hbm, ⟨85, _⟩ => ⟨S2048x2048, .f32⟩
  | .hbm, ⟨86, _⟩ => ⟨S2048x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== Proof.PreFacts.lean ====
/-
  The side conditions of the preconditions' operations.
-/
module

public import proofs.«01_k».proof.Pre_finite
public import proofs.«01_k».proof.Pre_finite_mid
public import proofs.«01_k».proof.Pre_finite_first

@[expose] public section

set_option maxRecDepth 16384

noncomputable section

namespace Cert.Pre_finite.Shown

/-- The precondition's side conditions hold: each is a comparison of shapes. -/
instance facts : Cert.Pre_finite.Facts where
  bcast_S_S2x4096x2048 := by decide
  reducesTo_S2x4096x2048_S_d0_1_2 := by decide
  h_S_ := by decide
  slices_S3x6x2048_S2x1x2048_0_5_0 := by decide
  shapeCasts_S2x1x2048_S2x2048 := by decide
  bcast_S_S2x2048 := by decide
  reducesTo_S2x2048_S_d0_1 := by decide
  slices_S4x2048x5632_S1x2048x5632_3_0_0 := by decide
  shapeCasts_S1x2048x5632_S2048x5632 := by decide
  bcast_S_S2048x5632 := by decide
  reducesTo_S2048x5632_S_d0_1 := by decide
  slices_S4x5632x2048_S1x5632x2048_3_0_0 := by decide
  shapeCasts_S1x5632x2048_S5632x2048 := by decide
  bcast_S_S5632x2048 := by decide
  reducesTo_S5632x2048_S_d0_1 := by decide

end Cert.Pre_finite.Shown

namespace Cert.Pre_finite_mid.Shown

/-- The precondition's side conditions hold: each is a comparison of shapes. -/
instance facts : Cert.Pre_finite_mid.Facts where
  bcast_S_S2x4096x2048 := by decide
  reducesTo_S2x4096x2048_S_d0_1_2 := by decide
  h_S_ := by decide
  bcast_S_S2x256x2048 := by decide
  reducesTo_S2x256x2048_S_d0_1_2 := by decide
  slices_S3x6x2048_S3x1x2048_0_5_0 := by decide
  shapeCasts_S3x1x2048_S3x2048 := by decide
  bcast_S_S3x2048 := by decide
  reducesTo_S3x2048_S_d0_1 := by decide
  slices_S4x2048x5632_S1x2048x5632_1_0_0 := by decide
  shapeCasts_S1x2048x5632_S2048x5632 := by decide
  bcast_S_S2048x5632 := by decide
  reducesTo_S2048x5632_S_d0_1 := by decide
  slices_S4x5632x2048_S1x5632x2048_1_0_0 := by decide
  shapeCasts_S1x5632x2048_S5632x2048 := by decide
  bcast_S_S5632x2048 := by decide
  reducesTo_S5632x2048_S_d0_1 := by decide

end Cert.Pre_finite_mid.Shown

namespace Cert.Pre_finite_first.Shown

/-- The precondition's side conditions hold: each is a comparison of shapes. -/
instance facts : Cert.Pre_finite_first.Facts where
  bcast_S_S2x4096x2048 := by decide
  reducesTo_S2x4096x2048_S_d0_1_2 := by decide
  h_S_ := by decide
  bcast_S_S2x256x2048 := by decide
  reducesTo_S2x256x2048_S_d0_1_2 := by decide
  slices_S3x6x2048_S3x1x2048_0_5_0 := by decide
  shapeCasts_S3x1x2048_S3x2048 := by decide
  bcast_S_S3x2048 := by decide
  reducesTo_S3x2048_S_d0_1 := by decide
  slices_S4x2048x5632_S1x2048x5632_0_0_0 := by decide
  shapeCasts_S1x2048x5632_S2048x5632 := by decide
  bcast_S_S2048x5632 := by decide
  reducesTo_S2048x5632_S_d0_1 := by decide
  slices_S4x5632x2048_S1x5632x2048_0_0_0 := by decide
  shapeCasts_S1x5632x2048_S5632x2048 := by decide
  bcast_S_S5632x2048 := by decide
  reducesTo_S5632x2048_S_d0_1 := by decide

end Cert.Pre_finite_first.Shown

end
-- ==== Proof.Shared.lean ====
/-
  Arithmetic of the extended reals shared by the calls' value proofs: sums of real terms, a real factor taken out of
  a sum cut into blocks, and the logistic factor of a real argument.
-/
module

public import Idealize.ShloMosaic.Lib.Pipeline.ValueKit
public import Idealize.ShloMosaic.Lib.ReduceAll

@[expose] public section

noncomputable section

namespace Cert.Shared

open Idealize.ShloMosaic

/-- An extended real that is a real number. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy
  exact ⟨a + b, (EReal.coe_add a b).symm⟩

theorem Real'.mul {x y : EReal} (hx : Real' x) (hy : Real' y) : Real' (x * y) := by
  obtain ⟨a, rfl⟩ := hx; obtain ⟨b, rfl⟩ := hy
  exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {ι : Type*} {s : Finset ι} {f : ι → EReal} (h : ∀ i, Real' (f i)) : Real' (∑ i ∈ s, f i) := by
  choose g hg using h
  exact ⟨∑ i ∈ s, g i, by rw [coe_sum]; exact Finset.sum_congr rfl fun i _ => hg i⟩

/-- A real factor distributes over a sum of real terms. -/
theorem mul_sum_real {ι : Type*} {s : Finset ι} {g : EReal} {f : ι → EReal} (hg : Real' g) (h : ∀ i, Real' (f i)) :
    g * ∑ i ∈ s, f i = ∑ i ∈ s, g * f i := by
  obtain ⟨a, rfl⟩ := hg
  choose b hb using h
  simp only [hb, ← EReal.coe_mul, ← coe_sum, Finset.mul_sum]

/-- `|x|` below the largest element says that `x` is a real number. -/
theorem real_of_abs_lt {x : EReal} (h : max x (-x) < ⊤) : Real' x := by
  have h1 : x ≠ ⊤ := by rintro rfl; simp at h
  have h2 : x ≠ ⊥ := by rintro rfl; simp at h
  exact ⟨x.toReal, (EReal.coe_toReal h1 h2).symm⟩

/-- `a · (1 / (1 + exp (0 − a)))`, the gated activation as both programs spell it. -/
def silu (a : EReal) : EReal := a * Ideal.div 1 (1 + Ideal.exp (0 - a))

/-- The logistic factor with the sign written as a negation. -/
theorem silu_eq (a : EReal) : a * Ideal.div 1 (1 + Ideal.exp (-a)) = silu a := by
  unfold silu; rw [zero_sub]

theorem Real'.silu {a : EReal} (h : Real' a) : Real' (silu a) := by
  obtain ⟨r, rfl⟩ := h
  have e : (1 : EReal) + Ideal.exp (0 - (r : EReal)) = ((1 + Real.exp (0 - r) : ℝ) : EReal) := by
    rw [EReal.coe_add, ← EReal.coe_zero, ← EReal.coe_sub]; rfl
  have hp : (1 + Real.exp (0 - r) : ℝ) ≠ 0 := by positivity
  unfold Shared.silu
  rw [e, Ideal.div_coe hp]
  exact Real'.mul ⟨r, rfl⟩ (Real'.mul ⟨1, rfl⟩ ⟨_, rfl⟩)

/-- A word of one bit made from a decision is 1 exactly when the decision holds. -/
theorem ofBool_decide_eq_one {p : Prop} [Decidable p] (h : BitVec.ofBool (decide p) = 1#1) : p := by
  by_contra hp
  rw [decide_eq_false hp] at h
  exact absurd h (by decide)

/-- A conjunction of one-bit words over a finite type that is 1 has every word 1. -/
theorem fold_andi_eq_one {ι : Type} [DecidableEq ι] (s : Finset ι) (f : ι → BitVec 1)
    (h : s.fold IntOp.andi (1#1) f = 1#1) : ∀ i ∈ s, f i = 1#1 := by
  induction s using Finset.induction_on with
  | empty => intro i hi; simp at hi
  | insert a s ha ih =>
    rw [Finset.fold_insert ha] at h
    obtain ⟨h1, h2⟩ := IntOp.andi_eq_one.1 h
    intro i hi
    rcases Finset.mem_insert.1 hi with rfl | hi
    exacts [h1, ih h2 i hi]

/-- `|x| < ∞` at every index of a finite type, as a conjunction of comparison bits, says every element is real. -/
theorem real_of_fold {ι : Type} [Fintype ι] [DecidableEq ι] {φ : FTy} (f : ι → Ideal φ)
    (h : Finset.fold IntOp.andi (1#1) (fun k => BitVec.ofBool (decide (FloatOps.absf (f k) < Ideal.ofBits .f32 2139095040#32)))
      Finset.univ = 1#1) (i : ι) : Real' (f i) := by
  have := ofBool_decide_eq_one (fold_andi_eq_one _ _ h i (Finset.mem_univ i))
  rw [show Ideal.ofBits .f32 2139095040#32 = (⊤ : EReal) by simp [Ideal.ofBits, Ideal.ieee]] at this
  exact real_of_abs_lt this

/-- The terms `s * n + k` of a sum over `Fin K`, taken block by block with a real factor: what is added block by block
    to `x` is `x` plus the factor times the whole sum. -/
theorem add_blocks {A n K : ℕ} (hK : K = A * n) (x g : EReal) (hg : Real' g) (f : Fin K → EReal) (hf : ∀ l, Real' (f l)) :
    x + ∑ s : Fin A, g * ∑ k : Fin n, f ⟨s.val * n + k.val, by
      subst hK; have := s.isLt; have := k.isLt; nlinarith [Nat.mul_le_mul_right n (Nat.succ_le_of_lt s.isLt)]⟩
      = x + g * ∑ l : Fin K, f l := by
  subst hK
  rw [← mul_sum_real hg fun s => Real'.sum fun k => hf _]
  congr 2
  refine Fin.sum_mul_add_congr fun s k hl => rfl

/-- The same where the blocks' terms are numbered by natural numbers. -/
theorem add_blocks_range {A n K : ℕ} (hK : K = A * n) (x g : EReal) (hg : Real' g) (f : Fin K → EReal)
    (hf : ∀ l, Real' (f l)) (T : ℕ → EReal)
    (hT : ∀ s : Fin A, T s.val = g * ∑ k : Fin n, f ⟨s.val * n + k.val, by
      subst hK; have := s.isLt; have := k.isLt; nlinarith [Nat.mul_le_mul_right n (Nat.succ_le_of_lt s.isLt)]⟩) :
    x + ∑ s ∈ Finset.range A, T s = x + g * ∑ l : Fin K, f l := by
  rw [← add_blocks hK x g hg f hf, Finset.sum_range]
  simp only [hT]

/-! ## The rows of the latent and context arrays, one below the other -/

/-- Row `R` of the latent rows followed by the context rows. -/
def rowAt (A : Vec Ideal ⟨3, ![2, 4096, 2048]⟩ .f32) (B : Vec Ideal ⟨3, ![2, 256, 2048]⟩ .f32) (R : Fin 8704) (d : Fin 2048) : EReal :=
  if h : R.val < 8192 then A (ix3 ⟨R.val / 4096, by omega⟩ ⟨R.val % 4096, by omega⟩ d)
  else B (ix3 ⟨(R.val - 8192) / 256, by omega⟩ ⟨(R.val - 8192) % 256, by omega⟩ d)

/-- The modulation entry of row `R`: a latent row's is its batch element's, a context row's the third. -/
def modIdx (R : Fin 8704) : Fin 3 := ⟨R.val / 4096, by omega⟩

theorem modIdx_ctx {R : Fin 8704} (h : ¬R.val < 8192) : modIdx R = 2 := Fin.ext (by show R.val / 4096 = 2; omega)

/-- Component `k` of row `R`'s modulation. -/
def modAt (M : Vec Ideal ⟨3, ![3, 6, 2048]⟩ .f32) (k : Fin 6) (R : Fin 8704) (d : Fin 2048) : EReal := M (ix3 (modIdx R) k d)

/-- The reshaped latent rows above the reshaped context rows, read at a row. -/
theorem concat_rows (A : Vec Ideal ⟨3, ![2, 4096, 2048]⟩ .f32) (B : Vec Ideal ⟨3, ![2, 256, 2048]⟩ .f32)
    (hA : Shape.ShapeCasts ⟨3, ![2, 4096, 2048]⟩ ⟨2, ![8192, 2048]⟩) (hB : Shape.ShapeCasts ⟨3, ![2, 256, 2048]⟩ ⟨2, ![512, 2048]⟩)
    (h : Shape.Concatenates [⟨2, ![8192, 2048]⟩, ⟨2, ![512, 2048]⟩] ⟨2, ![8704, 2048]⟩ 0) (R : Fin 8704) (d : Fin 2048) :
    concatenate ⟨2, ![8704, 2048]⟩ 0 [⟨⟨2, ![8192, 2048]⟩, shapeCast ⟨2, ![8192, 2048]⟩ A hA⟩, ⟨⟨2, ![512, 2048]⟩, shapeCast ⟨2, ![512, 2048]⟩ B hB⟩] h (ix2 R d)
      = rowAt A B R d := by
  unfold rowAt
  pointwise

/-- A row normalised by its root mean square, weighted by `g`, scaled by `1 + s` and shifted by `b`. -/
def normMod (X g b s : Fin 2048 → EReal) (d : Fin 2048) : EReal :=
  X d * Ideal.rsqrt (Ideal.div (∑ x : Fin 2048, X x * X x) (Ideal.ofBits .f32 1157627904#32) + Ideal.ofBits .f32 897988541#32)
    * (g d * (1 + s d)) + b d

end Cert.Shared

end
-- ==== Proof.FfnLast.lean ====
/-
  The value of the last layer's feed-forward call: the running block that the grid's inner axis accumulates is the
  residual plus the gated partial products so far, and the block written back is its root-mean-square normalisation.
-/
module

public import proofs.«01_k».proof.Defs
public import proofs.«01_k».proof.Proof.Shared
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Shared

/-- Row `R` of a `[2, 4096, 2048]` array. -/
def row3 (X : FVec Ideal S2x4096x2048 .f32) (R : Fin 8192) (d : Fin 2048) : EReal :=
  X (ix3 ⟨R.val / 4096, by omega⟩ ⟨R.val % 4096, by omega⟩ d)

/-- The gate of row `R`: the sixth modulation row of the row's batch element. -/
def gate (M : FVec Ideal S3x6x2048 .f32) (R : Fin 8192) (d : Fin 2048) : EReal := M (ix3 ⟨R.val / 4096, by omega⟩ 5 d)

/-- An up projection at row `R`, hidden unit `n`. -/
def up (H : FVec Ideal S2x4096x2048 .f32) (W : FVec Ideal S4x2048x5632 .f32) (R : Fin 8192) (n : Fin 5632) : EReal :=
  ∑ j : Fin 2048, row3 H R j * W (ix3 3 j n)

/-- The term of hidden unit `n` in the down projection. -/
def term (H : FVec Ideal S2x4096x2048 .f32) (W1 W3 : FVec Ideal S4x2048x5632 .f32) (W2 : FVec Ideal S4x5632x2048 .f32)
    (R : Fin 8192) (d : Fin 2048) (n : Fin 5632) : EReal :=
  silu (up H W1 R n) * up H W3 R n * W2 (ix3 3 n d)

/-- The rows after the feed-forward residual. -/
def resid (X H : FVec Ideal S2x4096x2048 .f32) (M : FVec Ideal S3x6x2048 .f32) (W1 W3 : FVec Ideal S4x2048x5632 .f32)
    (W2 : FVec Ideal S4x5632x2048 .f32) (R : Fin 8192) (d : Fin 2048) : EReal :=
  row3 X R d + gate M R d * ∑ n : Fin 5632, term H W1 W3 W2 R d n

/-- The result: the normalised rows. -/
def out (X H : FVec Ideal S2x4096x2048 .f32) (M : FVec Ideal S3x6x2048 .f32) (W1 W3 : FVec Ideal S4x2048x5632 .f32)
    (W2 : FVec Ideal S4x5632x2048 .f32) (Fg : FVec Ideal S2048 .f32) (i : S8192x2048.Idx) : EReal :=
  resid X H M W1 W3 W2 (i 0) (i 1)
    * Ideal.rsqrt (Ideal.div (∑ x : Fin 2048, resid X H M W1 W3 W2 (i 0) x * resid X H M W1 W3 W2 (i 0) x)
        (Ideal.ofBits .f32 1157627904#32) + Ideal.ofBits .f32 897988541#32)
    * Fg (ix1 (i 1))

variable (m : (ℓ : Loc nD τ sig) → Buf (Elt Ideal) ℓ) (c : Dev nD)

/-- The arguments as launched. -/
abbrev aX : FVec Ideal S2x4096x2048 .f32 := m ((c : Thread nD τ).loc main_arg0)
abbrev aH : FVec Ideal S2x4096x2048 .f32 := m ((c : Thread nD τ).loc main_arg1)
abbrev aM : FVec Ideal S3x6x2048 .f32 := m ((c : Thread nD τ).loc main_arg2)
abbrev aW1 : FVec Ideal S4x2048x5632 .f32 := m ((c : Thread nD τ).loc main_arg3)
abbrev aW3 : FVec Ideal S4x2048x5632 .f32 := m ((c : Thread nD τ).loc main_arg4)
abbrev aW2 : FVec Ideal S4x5632x2048 .f32 := m ((c : Thread nD τ).loc main_arg5)
abbrev aFg : FVec Ideal S2048 .f32 := m ((c : Thread nD τ).loc main_arg6)

/-- The windows' block indices at every grid point. -/
theorem idx : ∀ t : Fin cfg0.N, win0_0.index t = ![t.val / 11, 0] ∧ win0_1.index t = ![t.val / 11, 0]
    ∧ win0_2.index t = ![t.val / 88, 0, 0] ∧ win0_3.index t = ![0, 0, t.val % 11] ∧ win0_4.index t = ![0, 0, t.val % 11]
    ∧ win0_5.index t = ![0, t.val % 11, 0] ∧ win0_6.index t = ![0, 0] ∧ win0_7.index t = ![t.val / 11, 0] :=
  (by decide +kernel : ∀ t : Fin grid0.N, _)

theorem pt_lt (t : Fin cfg0.N) : t.val < 176 := lt_of_lt_of_eq t.isLt N_0

/-- Row `r` of block `q` of 512 rows. -/
abbrev blkRow (t : Fin cfg0.N) (r : Fin 512) : Fin 8192 :=
  ⟨t.val / 11 * 512 + r.val, by have := pt_lt t; omega⟩

/-- Hidden unit `k` of the point's block of 512 hidden units. -/
abbrev blkUnit (s : Fin 11) (k : Fin 512) : Fin 5632 := ⟨s.val * 512 + k.val, by omega⟩

theorem step (t : Fin cfg0.N) (v : Vec Ideal S512x2048 .f32) (r : Fin 512) (d : Fin 2048) :
    k0_pay3 (iblk m c 1 t) (iblk m c 3 t) (iblk m c 4 t) v
      (View.ld (iblk m c 2 t) (Rect.unit ![0, 5, 0] ![1, 1, 2048] inb_S1x6x2048_S1x1x2048_0_5_0)) (iblk m c 5 t) (ix2 r d)
    = v (ix2 r d) + gate (aM m c) (blkRow t r) d * ∑ k : Fin 512, term (aH m c) (aW1 m c) (aW3 m c) (aW2 m c) (blkRow t r) d
        (blkUnit ⟨t.val % 11, Nat.mod_lt _ (by decide)⟩ k) := by
  pointwise [k0_pay3, gate, term, up, row3, silu]
  have hN := pt_lt t
  blk_point [iblk, V, idx t]

theorem base (t : Fin cfg0.N) (r : Fin 512) (d : Fin 2048) :
    k0_pay2 (iblk m c 0 t) (ix2 r d) = row3 (aX m c) (blkRow t r) d := by
  pointwise [k0_pay2, row3]
  have hN := pt_lt t
  blk_point [iblk, V, idx t]

/-- Before a block's last point, the staging block holds the residual plus the gated partial products so far. -/
theorem fold (r : Fin 512) (d : Fin 2048) : ∀ (n : ℕ) (hn : n < cfg0.N), ¬n % 11 = 10 →
    outsAt0 m c n hn (ix2 r d) = row3 (aX m c) (blkRow ⟨n, hn⟩ r) d
      + ∑ s ∈ Finset.range (n % 11 + 1), if hs : s < 11 then gate (aM m c) (blkRow ⟨n, hn⟩ r) d
          * ∑ k : Fin 512, term (aH m c) (aW1 m c) (aW3 m c) (aW2 m c) (blkRow ⟨n, hn⟩ r) d (blkUnit ⟨s, hs⟩ k) else 0 := by
  intro n
  induction n with
  | zero =>
    intro hn h1
    rw [show outsAt0 m c 0 hn = _ from outsAt0_A m c ⟨0, hn⟩ rfl h1]
    frame_out
    refine (step m c _ _ r d).trans ?_
    rw [base, Finset.sum_range_one]
    rfl
  | succ n ih =>
    intro hn h1
    have hlt : n % 11 < 11 := Nat.mod_lt _ (by decide)
    have hlt' : (n + 1) % 11 < 11 := Nat.mod_lt _ (by decide)
    by_cases h0 : (n + 1) % 11 = 0
    · rw [show outsAt0 m c (n + 1) hn = _ from outsAt0_A m c ⟨n + 1, hn⟩ h0 h1]
      frame_out
      refine (step m c _ _ r d).trans ?_
      rw [base]
      simp only [h0, zero_add, Finset.sum_range_one]
      rfl
    · rw [show outsAt0 m c (n + 1) hn = _ from outsAt0_B m c ⟨n + 1, hn⟩ h0 h1]
      frame_out
      refine (step m c _ _ r d).trans ?_
      have e : (n + 1) % 11 = n % 11 + 1 := by omega
      have eq : blkRow ⟨n + 1, hn⟩ r = blkRow ⟨n, Nat.lt_of_succ_lt hn⟩ r := by
        apply Fin.ext; show (n + 1) / 11 * 512 + r.val = n / 11 * 512 + r.val; omega
      rw [Finset.sum_range_succ, dif_pos hlt', ← add_assoc, eq]
      refine congrArg₂ (· + ·) ?_ rfl
      refine (ih (Nat.lt_of_succ_lt hn) (by omega)).trans ?_
      rw [e]

/-- The gate, the normed activations and the weights are real numbers. -/
structure Finite : Prop where
  h : ∀ i, Real' (aH m c i)
  g : ∀ R d, Real' (gate (aM m c) R d)
  w1 : ∀ j n, Real' (aW1 m c (ix3 3 j n))
  w3 : ∀ j n, Real' (aW3 m c (ix3 3 j n))
  w2 : ∀ n d, Real' (aW2 m c (ix3 3 n d))

variable {m c}

theorem Finite.term (hf : Finite m c) (R : Fin 8192) (d : Fin 2048) (n : Fin 5632) :
    Real' (term (aH m c) (aW1 m c) (aW3 m c) (aW2 m c) R d n) :=
  .mul (.mul (.silu (.sum fun j => .mul (hf.h _) (hf.w1 j n))) (.sum fun j => .mul (hf.h _) (hf.w3 j n))) (hf.w2 n d)

/-- At a block's last point the sum is complete: what is normalised is the residual row. -/
theorem last (hf : Finite m c) (t : Fin cfg0.N) (h1 : t.val % 11 = 10) (r : Fin 512) (d : Fin 2048) :
    k0_pay3 (iblk m c 1 t) (iblk m c 3 t) (iblk m c 4 t)
      (outsAt0 m c (t.val - 1) (Nat.lt_of_le_of_lt (Nat.sub_le _ _) t.isLt))
      (View.ld (iblk m c 2 t) (Rect.unit ![0, 5, 0] ![1, 1, 2048] inb_S1x6x2048_S1x1x2048_0_5_0)) (iblk m c 5 t) (ix2 r d)
    = resid (aX m c) (aH m c) (aM m c) (aW1 m c) (aW3 m c) (aW2 m c) (blkRow t r) d := by
  have hp : t.val - 1 < cfg0.N := Nat.lt_of_le_of_lt (Nat.sub_le _ _) t.isLt
  have eq : blkRow ⟨t.val - 1, hp⟩ r = blkRow t r := by
    apply Fin.ext; show (t.val - 1) / 11 * 512 + r.val = t.val / 11 * 512 + r.val; omega
  refine (step m c _ _ r d).trans ?_
  rw [fold m c r d (t.val - 1) hp (by omega), eq, show (t.val - 1) % 11 + 1 = 10 by omega, add_assoc]
  refine Eq.trans ?_ (add_blocks_range (A := 11) (n := 512) rfl _ _ (hf.g _ _) _ (fun l => hf.term _ _ l)
    (fun s => if hs : s < 11 then gate (aM m c) (blkRow t r) d
      * ∑ k : Fin 512, term (aH m c) (aW1 m c) (aW3 m c) (aW2 m c) (blkRow t r) d (blkUnit ⟨s, hs⟩ k) else 0)
    fun s => dif_pos s.isLt)
  rw [Finset.sum_range_succ _ 10, dif_pos (by decide : 10 < 11)]
  simp only [h1]

theorem norm (t : Fin cfg0.N) (v : Vec Ideal S512x2048 .f32) (Y : Fin 2048 → EReal) (r : Fin 512)
    (hv : ∀ d, v (ix2 r d) = Y d) (d : Fin 2048) :
    k0_pay1 v (iblk m c 6 t) (ix2 r d)
    = Y d * Ideal.rsqrt (Ideal.div (∑ x : Fin 2048, Y x * Y x)
        (Ideal.ofBits .f32 1157627904#32) + Ideal.ofBits .f32 897988541#32) * aFg m c (ix1 d) := by
  pointwise [k0_pay1]
  simp only [hv]
  congr 1
  blk_point [iblk, V, idx t]

/-- The result array after the run. -/
theorem final (hf : Finite m c) : (dats m 0 c).arrAt 7 cfg0.N
    = out (aX m c) (aH m c) (aM m c) (aW1 m c) (aW3 m c) (aW2 m c) (aFg m c) := by
  refine (dats m 0 c).arrAt_eq_of_covers 7 _ (by decide +kernel) fun t hflush y => ?_
  have h1 : t.val % 11 = 10 := (flush0_7 t).mp hflush
  blk_simp
  rw [after0_7, outsAt0_C m c t (by omega) h1]
  frame_out
  idx_vars y
  refine (norm t _ _ _ (last hf t h1 _) _).trans ?_
  unfold out
  have e0 : (((cfg0.win 7).blk t).view.emb (ix2 y0 y1)) = ix2 (blkRow t y0) y1 := by
    blk_ext [idx t]
  rw [e0]
  rfl

end Cert.KernelIdeal.Value

end
-- ==== Proof.FfnLastRef.lean ====
/-
  The last layer's feed-forward reference read at an index, and the equality of the two runs' results.
-/
module

public import proofs.«01_k».proof.Proof.FfnLast
public import proofs.«01_k».proof.Proof.Gen.ReferenceIdeal.Run
public import proofs.«01_k».proof.Proof.Gen.ReferenceIdeal.Read
public import proofs.«01_k».proof.Pre_finite

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Shared

/-- The reference's result is the named function of its arguments. -/
theorem value (x0 x1 : FVec Ideal S2x4096x2048 .f32) (x2 : FVec Ideal S3x6x2048 .f32) (x3 x4 : FVec Ideal S4x2048x5632 .f32)
    (x5 : FVec Ideal S4x5632x2048 .f32) (x6 : FVec Ideal S2048 .f32) :
    val_main_v30 (F := Ideal) x0 x1 x2 x3 x4 x5 x6 = Cert.KernelIdeal.Value.out x0 x1 x2 x3 x4 x5 x6 := by
  funext i
  idx_vars i
  unfold Cert.KernelIdeal.Value.out Cert.KernelIdeal.Value.resid Cert.KernelIdeal.Value.term Cert.KernelIdeal.Value.up Cert.KernelIdeal.Value.gate Cert.KernelIdeal.Value.row3
  pointwise [val_main_v0, val_main_v1, val_main_v2, val_main_v3, val_main_v4, val_main_v5, val_main_call0_v0, val_main_call0_v1, val_main_call0_cst, val_main_call0_v2, val_main_call0_v3, val_main_call0_cst_0, val_main_call0_v4, val_main_call0_v5, val_main_v6, val_main_v7, val_main_v8, val_main_v9, val_main_v10, val_main_v11, val_main_v12, val_main_v13, val_main_v14, val_main_v15, val_main_v16, val_main_v17, val_main_cst, val_main_v18, val_main_v19, val_main_cst_0, val_main_v20, val_main_v21, val_main_cst_1, val_main_v22, val_main_v23, val_main_v24, val_main_v25, val_main_v26, val_main_v27, val_main_v28, val_main_v29, val_main_v30]
  simp only [silu_eq]

end Cert.ReferenceIdeal.Read

namespace Cert.KernelIdeal.Value

open Cert.KernelIdeal Cert.KernelIdeal.Gen Cert.Shared

/-- The precondition, read at an index: every element it ranges over is a real number. -/
theorem finite_of_pre [Cert.Pre_finite.Facts] {m : (ℓ : Loc nD τ sig) → Buf (Elt Ideal) ℓ} {c : Dev nD}
    (h : Cert.Pre_finite.fn (F := Ideal) (aX m c) (aH m c) (aM m c) (aW1 m c) (aW3 m c) (aW2 m c) (aFg m c) = fun _ => 1#1) :
    Finite m c := by
  have h := congrFun h ix0
  unfold Cert.Pre_finite.fn Cert.Pre_finite.fn_part1 at h
  pointwise at h
  obtain ⟨h, h2⟩ := IntOp.andi_eq_one.1 h
  obtain ⟨h, h3⟩ := IntOp.andi_eq_one.1 h
  obtain ⟨h, h1⟩ := IntOp.andi_eq_one.1 h
  obtain ⟨hh, hg⟩ := IntOp.andi_eq_one.1 h
  refine ⟨fun i => ?_, fun R d => ?_, fun j n => ?_, fun j n => ?_, fun n d => ?_⟩
  · rw [eq_ix3 i]; exact real_of_fold _ hh (i 0, i 1, i 2)
  · have hR := R.isLt
    exact real_of_fold _ hg (⟨R.val / 4096, by omega⟩, d)
  · exact real_of_fold _ h1 (j, n)
  · exact real_of_fold _ h3 (j, n)
  · exact real_of_fold _ h2 (n, d)

end Cert.KernelIdeal.Value

end
-- ==== Proof.FfnMid.lean ====
/-
  The value of an inner layer's feed-forward call: the running block that the grid's inner axis accumulates is the
  residual plus the gated partial products so far, over the latent and the context rows.
-/
module

public import proofs.«01_k».proof.Defs
public import proofs.«01_k».proof.Proof.Shared
public import proofs.«01_k».proof.Proof.Gen.MidIdeal.Value

@[expose] public section

set_option maxRecDepth 16384

noncomputable section

open Idealize.ShloMosaic Idealize.ShloMosaic.TcCoe Idealize.SL.Sem
open Idealize.ShloMosaic.Pipeline (Dat)

namespace Cert.MidIdeal.Value

open Cert.MidIdeal Cert.MidIdeal.Gen Cert.Shared

variable (m : (ℓ : Loc nD τ sig) → Buf (Elt Ideal) ℓ) (c : Dev nD)

/-- The arguments as launched: residual rows, normed rows, modulation and weights. -/
abbrev aXl : FVec Ideal S2x4096x2048 .f32 := m ((c : Thread nD τ).loc main_arg0)
abbrev aXc : FVec Ideal S2x256x2048 .f32 := m ((c : Thread nD τ).loc main_arg1)
abbrev aHl : FVec Ideal S2x4096x2048 .f32 := m ((c : Thread nD τ).loc main_arg2)
abbrev aHc : FVec Ideal S2x256x2048 .f32 := m ((c : Thread nD τ).loc main_arg3)
abbrev aM : FVec Ideal S3x6x2048 .f32 := m ((c : Thread nD τ).loc main_arg4)
abbrev aW1 : FVec Ideal S4x2048x5632 .f32 := m ((c : Thread nD τ).loc main_arg5)
abbrev aW3 : FVec Ideal S4x2048x5632 .f32 := m ((c : Thread nD τ).loc main_arg6)
abbrev aW2 : FVec Ideal S4x5632x2048 .f32 := m ((c : Thread nD τ).loc main_arg7)

/-- An up projection at row `R`, hidden unit `n`. -/
def up (Hl : FVec Ideal S2x4096x2048 .f32) (Hc : FVec Ideal S2x256x2048 .f32) (W : FVec Ideal S4x2048x5632 .f32) (R : Fin 8704)
    (n : Fin 5632) : EReal :=
  ∑ j : Fin 2048, rowAt Hl Hc R j * W (ix3 1 j n)

/-- The term of hidden unit `n` in the down projection. -/
def term (Hl : FVec Ideal S2x4096x2048 .f32) (Hc : FVec Ideal S2x256x2048 .f32) (W1 W3 : FVec Ideal S4x2048x5632 .f32)
    (W2 : FVec Ideal S4x5632x2048 .f32) (R : Fin 8704) (d : Fin 2048) (n : Fin 5632) : EReal :=
  silu (up Hl Hc W1 R n) * up Hl Hc W3 R n * W2 (ix3 1 n d)

/-- The result: the rows after the feed-forward residual. -/
def out (Xl : FVec Ideal S2x4096x2048 .f32) (Xc : FVec Ideal S2x256x2048 .f32) (Hl : FVec Ideal S2x4096x2048 .f32)
    (Hc : FVec Ideal S2x256x2048 .f32) (M : FVec Ideal S3x6x2048 .f32) (W1 W3 : FVec Ideal S4x2048x5632 .f32)
    (W2 : FVec Ideal S4x5632x2048 .f32) (i : S8704x2048.Idx) : EReal :=
  rowAt Xl Xc (i 0) (i 1) + modAt M 5 (i 0) (i 1) * ∑ n : Fin 5632, term Hl Hc W1 W3 W2 (i 0) (i 1) n

/-- The windows' block indices at every grid point. -/
theorem idx : ∀ t : Fin cfg0.N, win0_0.index t = ![t.val / 11, 0] ∧ win0_1.index t = ![t.val / 11, 0]
    ∧ win0_2.index t = ![t.val / 88, 0, 0] ∧ win0_3.index t = ![0, 0, t.val % 11] ∧ win0_4.index t = ![0, 0, t.val % 11]
    ∧ win0_5.index t = ![0, t.val % 11, 0] ∧ win0_7.index t = ![t.val / 11, 0] :=
  (by decide +kernel : ∀ t : Fin grid0.N, _)

theorem pt_lt (t : Fin cfg0.N) : t.val < 187 := lt_of_lt_of_eq t.isLt N_0

/-- Row `r` of the point's block of 512 rows. -/
abbrev blkRow (t : Fin cfg0.N) (r : Fin 512) : Fin 8704 :=
  ⟨t.val / 11 * 512 + r.val, by have := pt_lt t; omega⟩

/-- Hidden unit `k` of the point's block of 512 hidden units. -/
abbrev blkUnit (s : Fin 11) (k : Fin 512) : Fin 5632 := ⟨s.val * 512 + k.val, by omega⟩

/-- The residual rows' array at entry. -/
theorem rowsX (R : Fin 8704) (d : Fin 2048) : V m c main_v2 (ix2 R d) = rowAt (aXl m c) (aXc m c) R d := by
  entry_read
  exact concat_rows _ _ _ _ _ R d

/-- The normed rows' array at entry. -/
theorem rowsH (R : Fin 8704) (d : Fin 2048) : V m c main_v6 (ix2 R d) = rowAt (aHl m c) (aHc m c) R d := by
  unfold V
  after_results
  exact concat_rows _ _ _ _ concatenates_S8192x2048_S512x2048_S8704x2048_d0 R d

theorem blkX (t : Fin cfg0.N) (r : Fin 512) (d : Fin 2048) : iblk m c 0 t (ix2 r d) = rowAt (aXl m c) (aXc m c) (blkRow t r) d := by
  have hN := pt_lt t
  rw [← rowsX]
  blk_ext [iblk, idx t]

theorem blkH (t : Fin cfg0.N) (r : Fin 512) (d : Fin 2048) : iblk m c 1 t (ix2 r d) = rowAt (aHl m c) (aHc m c) (blkRow t r) d := by
  have hN := pt_lt t
  rw [← rowsH]
  blk_ext [iblk, idx t]

theorem blkM (t : Fin cfg0.N) (r : Fin 512) (k : Fin 6) (d : Fin 2048) : iblk m c 2 t (ix3 0 k d) = modAt (aM m c) k (blkRow t r) d := by
  have hN := pt_lt t
  unfold modAt modIdx
  blk_ext [iblk, V, idx t]

theorem base (t : Fin cfg0.N) (r : Fin 512) (d : Fin 2048) :
    k0_pay1 (iblk m c 0 t) (ix2 r d) = rowAt (aXl m c) (aXc m c) (blkRow t r) d := by
  pointwise [k0_pay1, blkX]

theorem step (t : Fin cfg0.N) (v : Vec Ideal S512x2048 .f32) (r : Fin 512) (d : Fin 2048) :
    k0_pay2 (iblk m c 1 t) (iblk m c 3 t) (iblk m c 4 t) v
      (View.ld (iblk m c 2 t) (Rect.unit ![0, 5, 0] ![1, 1, 2048] inb_S1x6x2048_S1x1x2048_0_5_0)) (iblk m c 5 t) (ix2 r d)
    = v (ix2 r d) + modAt (aM m c) 5 (blkRow t r) d * ∑ k : Fin 512, term (aHl m c) (aHc m c) (aW1 m c) (aW3 m c) (aW2 m c) (blkRow t r) d
        (blkUnit ⟨t.val % 11, Nat.mod_lt _ (by decide)⟩ k) := by
  pointwise [k0_pay2, term, up, silu]
  have hN := pt_lt t
  simp only [blkH, ← blkM]
  blk_point [iblk, V, idx t]

/-- After a point, the staging block holds the residual plus the gated partial products so far. -/
theorem fold (r : Fin 512) (d : Fin 2048) : ∀ (n : ℕ) (hn : n < cfg0.N),
    outsAt0 m c n hn (ix2 r d) = rowAt (aXl m c) (aXc m c) (blkRow ⟨n, hn⟩ r) d
      + ∑ s ∈ Finset.range (n % 11 + 1), if hs : s < 11 then modAt (aM m c) 5 (blkRow ⟨n, hn⟩ r) d
          * ∑ k : Fin 512, term (aHl m c) (aHc m c) (aW1 m c) (aW3 m c) (aW2 m c) (blkRow ⟨n, hn⟩ r) d (blkUnit ⟨s, hs⟩ k) else 0 := by
  intro n
  induction n with
  | zero =>
    intro hn
    rw [show outsAt0 m c 0 hn = _ from outsAt0_A m c ⟨0, hn⟩ rfl]
    frame_out
    refine (step m c _ _ r d).trans ?_
    rw [base, Finset.sum_range_one]
    rfl
  | succ n ih =>
    intro hn
    have hlt' : (n + 1) % 11 < 11 := Nat.mod_lt _ (by decide)
    by_cases h0 : (n + 1) % 11 = 0
    · rw [show outsAt0 m c (n + 1) hn = _ from outsAt0_A m c ⟨n + 1, hn⟩ h0]
      frame_out
      refine (step m c _ _ r d).trans ?_
      rw [base]
      simp only [h0, zero_add, Finset.sum_range_one]
      rfl
    · rw [show outsAt0 m c (n + 1) hn = _ from outsAt0_B m c ⟨n + 1, hn⟩ h0]
      frame_out
      refine (step m c _ _ r d).trans ?_
      have e : (n + 1) % 11 = n % 11 + 1 := by omega
      have eq : blkRow ⟨n + 1, hn⟩ r = blkRow ⟨n, Nat.lt_of_succ_lt hn⟩ r := by
        apply Fin.ext; show (n + 1) / 11 * 512 + r.val = n / 11 * 512 + r.val; omega
      rw [Finset.sum_range_succ, dif_pos hlt', ← add_assoc, eq]
      refine congrArg₂ (· + ·) ?_ rfl
      refine (ih (Nat.lt_of_succ_lt hn)).trans ?_
      rw [e]

/-- The gate, the normed activations and the weights are real numbers. -/
structure Finite : Prop where
  hl : ∀ i, Real' (aHl m c i)
  hc : ∀ i, Real' (aHc m c i)
  g : ∀ b d, Real' (aM m c (ix3 b 5 d))
  w1 : ∀ j n, Real' (aW1 m c (ix3 1 j n))
  w3 : ∀ j n, Real' (aW3 m c (ix3 1 j n))
  w2 : ∀ n d, Real' (aW2 m c (ix3 1 n d))

variable {m c}

theorem Finite.row (hf : Finite m c) (R : Fin 8704) (d : Fin 2048) : Real' (rowAt (aHl m c) (aHc m c) R d) := by
  unfold rowAt
  split
  exacts [hf.hl _, hf.hc _]

theorem Finite.term (hf : Finite m c) (R : Fin 8704) (d : Fin 2048) (n : Fin 5632) :
    Real' (term (aHl m c) (aHc m c) (aW1 m c) (aW3 m c) (aW2 m c) R d n) :=
  .mul (.mul (.silu (.sum fun j => .mul (hf.row R j) (hf.w1 j n))) (.sum fun j => .mul (hf.row R j) (hf.w3 j n))) (hf.w2 n d)

/-- The result array after the run. -/
theorem final (hf : Finite m c) : (dats m 0 c).arrAt 7 cfg0.N
    = out (aXl m c) (aXc m c) (aHl m c) (aHc m c) (aM m c) (aW1 m c) (aW3 m c) (aW2 m c) := by
  refine (dats m 0 c).arrAt_eq_of_covers 7 _ (by decide +kernel) fun t hflush y => ?_
  have h1 : t.val % 11 = 10 := (flush0_7 t).mp hflush
  blk_simp
  rw [after0_7]
  idx_vars y
  refine (fold m c y0 y1 t.val t.isLt).trans ?_
  have e0 : (((cfg0.win 7).blk t).view.emb (ix2 y0 y1)) = ix2 (blkRow t y0) y1 := by
    have hN := pt_lt t
    blk_ext [idx t]
  rw [e0, h1]
  exact add_blocks_range (A := 11) (n := 512) rfl _ _ (hf.g _ _) _ (fun l => hf.term _ _ l) _ fun s => dif_pos s.isLt

end Cert.MidIdeal.Value

end
-- ==== Proof.FfnMidRef.lean ====
/-
  The inner feed-forward reference read at an index, and the precondition of that call read at an index.
-/
module

public import proofs.«01_k».proof.Proof.FfnMid
public import proofs.«01_k».proof.Proof.Gen.MidReferenceIdeal.Run
public import proofs.«01_k».proof.Proof.Gen.MidReferenceIdeal.Read
public import proofs.«01_k».proof.Pre_finite_mid

@[expose] public section

set_option maxRecDepth 16384

noncomputable section

open Idealize.ShloMosaic Idealize.ShloMosaic.TcCoe Idealize.SL.Sem

namespace Cert.MidReferenceIdeal.Read

open Cert.MidReferenceIdeal Cert.MidReferenceIdeal.Gen Cert.Shared

/-- The reference's result is the named function of its arguments. -/
theorem value (x0 : FVec Ideal S2x4096x2048 .f32) (x1 : FVec Ideal S2x256x2048 .f32) (x2 : FVec Ideal S2x4096x2048 .f32)
    (x3 : FVec Ideal S2x256x2048 .f32) (x4 : FVec Ideal S3x6x2048 .f32) (x5 x6 : FVec Ideal S4x2048x5632 .f32)
    (x7 : FVec Ideal S4x5632x2048 .f32) :
    val_main_v36 (F := Ideal) x0 x1 x2 x3 x4 x5 x6 x7 = Cert.MidIdeal.Value.out x0 x1 x2 x3 x4 x5 x6 x7 := by
  funext i
  idx_vars i
  unfold Cert.MidIdeal.Value.out Cert.MidIdeal.Value.term Cert.MidIdeal.Value.up modAt rowAt
  pointwise [val_main_v0, val_main_v1, val_main_v2, val_main_v3, val_main_v4, val_main_v5, val_main_v6, val_main_v7, val_main_v8, val_main_v9, val_main_call0_v0, val_main_call0_v1, val_main_call0_cst, val_main_call0_v2, val_main_call0_v3, val_main_call0_cst_0, val_main_call0_v4, val_main_call0_v5, val_main_v10, val_main_v11, val_main_v12, val_main_v13, val_main_v14, val_main_v15, val_main_v16, val_main_v17, val_main_v18, val_main_v19, val_main_v20, val_main_v21, val_main_v22, val_main_v23, val_main_v24, val_main_v25, val_main_call1_v0, val_main_call1_v1, val_main_call1_cst, val_main_call1_v2, val_main_call1_v3, val_main_call1_cst_0, val_main_call1_v4, val_main_call1_v5, val_main_v26, val_main_v27, val_main_v28, val_main_v29, val_main_v30, val_main_v31, val_main_v32, val_main_v33, val_main_v34, val_main_v35, val_main_v36]
  by_cases h : i0.val < 8192
  · simp only [dif_pos h, silu_eq, modIdx]
  · simp only [dif_neg h, silu_eq, modIdx_ctx h]

end Cert.MidReferenceIdeal.Read

namespace Cert.MidIdeal.Value

open Cert.MidIdeal Cert.MidIdeal.Gen Cert.Shared

/-- The precondition, read at an index: every element it ranges over is a real number. -/
theorem finite_of_pre [Cert.Pre_finite_mid.Facts] {m : (ℓ : Loc nD τ sig) → Buf (Elt Ideal) ℓ} {c : Dev nD} {g : FVec Ideal S2048 .f32}
    (h : Cert.Pre_finite_mid.fn (F := Ideal) (aXl m c) (aXc m c) (aHl m c) (aHc m c) (aM m c) (aW1 m c) (aW3 m c) (aW2 m c) g = fun _ => 1#1) :
    Finite m c := by
  have h := congrFun h ix0
  unfold Cert.Pre_finite_mid.fn Cert.Pre_finite_mid.fn_part1 Cert.Pre_finite_mid.fn_part2 at h
  pointwise at h
  obtain ⟨h, h2⟩ := IntOp.andi_eq_one.1 h
  obtain ⟨h, h3⟩ := IntOp.andi_eq_one.1 h
  obtain ⟨h, h1⟩ := IntOp.andi_eq_one.1 h
  obtain ⟨h, hg⟩ := IntOp.andi_eq_one.1 h
  obtain ⟨hl, hc⟩ := IntOp.andi_eq_one.1 h
  refine ⟨fun i => ?_, fun i => ?_, fun b d => ?_, fun j n => ?_, fun j n => ?_, fun n d => ?_⟩
  · rw [eq_ix3 i]; exact real_of_fold _ hl (i 0, i 1, i 2)
  · rw [eq_ix3 i]; exact real_of_fold _ hc (i 0, i 1, i 2)
  · exact real_of_fold _ hg (b, d)
  · exact real_of_fold _ h1 (j, n)
  · exact real_of_fold _ h3 (j, n)
  · exact real_of_fold _ h2 (n, d)

end Cert.MidIdeal.Value

end
-- ==== Proof.FfnFirst.lean ====
/-
  The value of the first layer's feed-forward call: the running block that the grid's inner axis accumulates is the
  residual plus the gated partial products so far, and the attention layers' weights come out as they are, side by side.
-/
module

public import proofs.«01_k».proof.Defs
public import proofs.«01_k».proof.Proof.Shared
public import proofs.«01_k».proof.Proof.Gen.FirstIdeal.Value

@[expose] public section

set_option maxRecDepth 16384

noncomputable section

open Idealize.ShloMosaic Idealize.ShloMosaic.TcCoe Idealize.SL.Sem
open Idealize.ShloMosaic.Pipeline (Dat)

namespace Cert.FirstIdeal.Value

open Cert.FirstIdeal Cert.FirstIdeal.Gen Cert.Shared

variable (m : (ℓ : Loc nD τ sig) → Buf (Elt Ideal) ℓ) (c : Dev nD)

/-- The arguments as launched: residual rows, normed rows, modulation and weights. -/
abbrev aXl : FVec Ideal S2x4096x2048 .f32 := m ((c : Thread nD τ).loc main_arg0)
abbrev aXc : FVec Ideal S2x256x2048 .f32 := m ((c : Thread nD τ).loc main_arg1)
abbrev aHl : FVec Ideal S2x4096x2048 .f32 := m ((c : Thread nD τ).loc main_arg2)
abbrev aHc : FVec Ideal S2x256x2048 .f32 := m ((c : Thread nD τ).loc main_arg3)
abbrev aM : FVec Ideal S3x6x2048 .f32 := m ((c : Thread nD τ).loc main_arg4)
abbrev aW1 : FVec Ideal S4x2048x5632 .f32 := m ((c : Thread nD τ).loc main_arg5)
abbrev aW3 : FVec Ideal S4x2048x5632 .f32 := m ((c : Thread nD τ).loc main_arg6)
abbrev aW2 : FVec Ideal S4x5632x2048 .f32 := m ((c : Thread nD τ).loc main_arg7)
abbrev aGq : FVec Ideal S1x2048x2048 .f32 := m ((c : Thread nD τ).loc main_arg9)
abbrev aGk : FVec Ideal S1x2048x512 .f32 := m ((c : Thread nD τ).loc main_arg10)
abbrev aGv : FVec Ideal S1x2048x512 .f32 := m ((c : Thread nD τ).loc main_arg11)
abbrev aGo : FVec Ideal S1x2048x2048 .f32 := m ((c : Thread nD τ).loc main_arg12)
abbrev aNq : FVec Ideal S1x2048x2048 .f32 := m ((c : Thread nD τ).loc main_arg13)
abbrev aNk : FVec Ideal S1x2048x2048 .f32 := m ((c : Thread nD τ).loc main_arg14)
abbrev aNv : FVec Ideal S1x2048x2048 .f32 := m ((c : Thread nD τ).loc main_arg15)
abbrev aNo : FVec Ideal S1x2048x2048 .f32 := m ((c : Thread nD τ).loc main_arg16)

/-- An up projection at row `R`, hidden unit `n`. -/
def up (Hl : FVec Ideal S2x4096x2048 .f32) (Hc : FVec Ideal S2x256x2048 .f32) (W : FVec Ideal S4x2048x5632 .f32) (R : Fin 8704)
    (n : Fin 5632) : EReal :=
  ∑ j : Fin 2048, rowAt Hl Hc R j * W (ix3 0 j n)

/-- The term of hidden unit `n` in the down projection. -/
def term (Hl : FVec Ideal S2x4096x2048 .f32) (Hc : FVec Ideal S2x256x2048 .f32) (W1 W3 : FVec Ideal S4x2048x5632 .f32)
    (W2 : FVec Ideal S4x5632x2048 .f32) (R : Fin 8704) (d : Fin 2048) (n : Fin 5632) : EReal :=
  silu (up Hl Hc W1 R n) * up Hl Hc W3 R n * W2 (ix3 0 n d)

/-- The result: the rows after the feed-forward residual. -/
def out (Xl : FVec Ideal S2x4096x2048 .f32) (Xc : FVec Ideal S2x256x2048 .f32) (Hl : FVec Ideal S2x4096x2048 .f32)
    (Hc : FVec Ideal S2x256x2048 .f32) (M : FVec Ideal S3x6x2048 .f32) (W1 W3 : FVec Ideal S4x2048x5632 .f32)
    (W2 : FVec Ideal S4x5632x2048 .f32) (i : S8704x2048.Idx) : EReal :=
  rowAt Xl Xc (i 0) (i 1) + modAt M 5 (i 0) (i 1) * ∑ n : Fin 5632, term Hl Hc W1 W3 W2 (i 0) (i 1) n

/-- The grouped-query attention's three weights, side by side along the columns. -/
def side (Q : FVec Ideal S1x2048x2048 .f32) (K V : FVec Ideal S1x2048x512 .f32) (i : S2048x3072.Idx) : EReal :=
  if h : (i 1).val < 2048 then Q (ix3 0 (i 0) ⟨(i 1).val, h⟩)
  else if h' : (i 1).val < 2560 then K (ix3 0 (i 0) ⟨(i 1).val - 2048, by omega⟩)
  else V (ix3 0 (i 0) ⟨(i 1).val - 2560, by have h : (i 1).val < 3072 := (i 1).isLt; omega⟩)

theorem side_at (Q : FVec Ideal S1x2048x2048 .f32) (K V : FVec Ideal S1x2048x512 .f32) (r : Fin 2048) (d : Fin 3072) :
    side Q K V (ix2 r d) = if h : d.val < 2048 then Q (ix3 0 r ⟨d.val, h⟩)
      else if h' : d.val < 2560 then K (ix3 0 r ⟨d.val - 2048, by omega⟩) else V (ix3 0 r ⟨d.val - 2560, by omega⟩) := rfl

/-- One weight as it is. -/
def plain (W : FVec Ideal S1x2048x2048 .f32) (i : S2048x2048.Idx) : EReal := W (ix3 0 (i 0) (i 1))

/-- The neighbourhood attention's three weights, stacked. -/
def stack (Q K V : FVec Ideal S1x2048x2048 .f32) (i : S3x2048x2048.Idx) : EReal :=
  if (i 0).val = 0 then Q (ix3 0 (i 1) (i 2)) else if (i 0).val = 1 then K (ix3 0 (i 1) (i 2)) else V (ix3 0 (i 1) (i 2))

/-- The windows' block indices at every grid point. -/
theorem idx : ∀ t : Fin cfg0.N, win0_0.index t = ![t.val / 11, 0] ∧ win0_1.index t = ![t.val / 11, 0]
    ∧ win0_2.index t = ![t.val / 88, 0, 0] ∧ win0_3.index t = ![0, 0, t.val % 11] ∧ win0_4.index t = ![0, 0, t.val % 11]
    ∧ win0_5.index t = ![0, t.val % 11, 0] ∧ win0_15.index t = ![t.val / 11, 0]
    ∧ win0_7.index t = ![0, min t.val 127, 0] ∧ win0_8.index t = ![0, min t.val 127, 0] ∧ win0_9.index t = ![0, min t.val 127, 0]
    ∧ win0_10.index t = ![0, min t.val 127, 0] ∧ win0_11.index t = ![0, min t.val 127, 0] ∧ win0_12.index t = ![0, min t.val 127, 0]
    ∧ win0_13.index t = ![0, min t.val 127, 0] ∧ win0_14.index t = ![0, min t.val 127, 0] ∧ win0_16.index t = ![min t.val 127, 0]
    ∧ win0_17.index t = ![min t.val 127, 0] ∧ win0_18.index t = ![0, min t.val 127, 0] ∧ win0_19.index t = ![min t.val 127, 0] :=
  (by decide +kernel : ∀ t : Fin grid0.N, _)

theorem pt_lt (t : Fin cfg0.N) : t.val < 187 := lt_of_lt_of_eq t.isLt N_0

/-- Row `r` of the point's block of 512 rows. -/
abbrev blkRow (t : Fin cfg0.N) (r : Fin 512) : Fin 8704 :=
  ⟨t.val / 11 * 512 + r.val, by have := pt_lt t; omega⟩

/-- Hidden unit `k` of the point's block of 512 hidden units. -/
abbrev blkUnit (s : Fin 11) (k : Fin 512) : Fin 5632 := ⟨s.val * 512 + k.val, by omega⟩

/-- The residual rows' array at entry. -/
theorem rowsX (R : Fin 8704) (d : Fin 2048) : V m c main_v2 (ix2 R d) = rowAt (aXl m c) (aXc m c) R d := by
  entry_read
  exact concat_rows _ _ _ _ _ R d

/-- The normed rows' array at entry. -/
theorem rowsH (R : Fin 8704) (d : Fin 2048) : V m c main_v6 (ix2 R d) = rowAt (aHl m c) (aHc m c) R d := by
  unfold V
  after_results
  exact concat_rows _ _ _ _ concatenates_S8192x2048_S512x2048_S8704x2048_d0 R d

theorem blkX (t : Fin cfg0.N) (r : Fin 512) (d : Fin 2048) : iblk m c 0 t (ix2 r d) = rowAt (aXl m c) (aXc m c) (blkRow t r) d := by
  have hN := pt_lt t
  rw [← rowsX]
  blk_ext [iblk, idx t]

theorem blkH (t : Fin cfg0.N) (r : Fin 512) (d : Fin 2048) : iblk m c 1 t (ix2 r d) = rowAt (aHl m c) (aHc m c) (blkRow t r) d := by
  have hN := pt_lt t
  rw [← rowsH]
  blk_ext [iblk, idx t]

theorem blkM (t : Fin cfg0.N) (r : Fin 512) (k : Fin 6) (d : Fin 2048) : iblk m c 2 t (ix3 0 k d) = modAt (aM m c) k (blkRow t r) d := by
  have hN := pt_lt t
  unfold modAt modIdx
  blk_ext [iblk, V, idx t]

theorem base (t : Fin cfg0.N) (r : Fin 512) (d : Fin 2048) :
    k0_pay11 (iblk m c 0 t) (ix2 r d) = rowAt (aXl m c) (aXc m c) (blkRow t r) d := by
  pointwise [k0_pay11, blkX]

theorem step (t : Fin cfg0.N) (v : Vec Ideal S512x2048 .f32) (r : Fin 512) (d : Fin 2048) :
    k0_pay1 (k0_pay13 (iblk m c 1 t) (iblk m c 3 t)) (k0_pay14 (iblk m c 1 t) (iblk m c 4 t)) (k0_pay15 v)
      (View.ld (iblk m c 2 t) (Rect.unit ![0, 5, 0] ![1, 1, 2048] inb_S1x6x2048_S1x1x2048_0_5_0)) (iblk m c 5 t) (ix2 r d)
    = v (ix2 r d) + modAt (aM m c) 5 (blkRow t r) d * ∑ k : Fin 512, term (aHl m c) (aHc m c) (aW1 m c) (aW3 m c) (aW2 m c) (blkRow t r) d
        (blkUnit ⟨t.val % 11, Nat.mod_lt _ (by decide)⟩ k) := by
  pointwise [k0_pay1, k0_pay12, k0_pay13, k0_pay14, k0_pay15, term, up, silu]
  have hN := pt_lt t
  simp only [blkH, ← blkM]
  blk_point [iblk, V, idx t]

/-- After a point, the staging block holds the residual plus the gated partial products so far. -/
theorem fold (r : Fin 512) (d : Fin 2048) : ∀ (n : ℕ) (hn : n < cfg0.N),
    (outsAt0 m c n hn).1 (ix2 r d) = rowAt (aXl m c) (aXc m c) (blkRow ⟨n, hn⟩ r) d
      + ∑ s ∈ Finset.range (n % 11 + 1), if hs : s < 11 then modAt (aM m c) 5 (blkRow ⟨n, hn⟩ r) d
          * ∑ k : Fin 512, term (aHl m c) (aHc m c) (aW1 m c) (aW3 m c) (aW2 m c) (blkRow ⟨n, hn⟩ r) d (blkUnit ⟨s, hs⟩ k) else 0 := by
  intro n
  induction n with
  | zero =>
    intro hn
    rw [show outsAt0 m c 0 hn = _ from outsAt0_A m c ⟨0, hn⟩ rfl]
    dsimp only
    frame_out
    refine (step m c _ _ r d).trans ?_
    rw [base, Finset.sum_range_one]
    rfl
  | succ n ih =>
    intro hn
    have hlt' : (n + 1) % 11 < 11 := Nat.mod_lt _ (by decide)
    by_cases h0 : (n + 1) % 11 = 0
    · rw [show outsAt0 m c (n + 1) hn = _ from outsAt0_A m c ⟨n + 1, hn⟩ h0]
      dsimp only
      frame_out
      refine (step m c _ _ r d).trans ?_
      rw [base]
      simp only [h0, zero_add, Finset.sum_range_one]
      rfl
    · rw [show outsAt0 m c (n + 1) hn = _ from outsAt0_B m c ⟨n + 1, hn⟩ h0]
      dsimp only
      frame_out
      refine (step m c _ _ r d).trans ?_
      have e : (n + 1) % 11 = n % 11 + 1 := by omega
      have eq : blkRow ⟨n + 1, hn⟩ r = blkRow ⟨n, Nat.lt_of_succ_lt hn⟩ r := by
        apply Fin.ext; show (n + 1) / 11 * 512 + r.val = n / 11 * 512 + r.val; omega
      rw [Finset.sum_range_succ, dif_pos hlt', ← add_assoc, eq]
      refine congrArg₂ (· + ·) ?_ rfl
      refine (ih (Nat.lt_of_succ_lt hn)).trans ?_
      rw [e]

/-- The gate, the normed activations and the weights are real numbers. -/
structure Finite : Prop where
  hl : ∀ i, Real' (aHl m c i)
  hc : ∀ i, Real' (aHc m c i)
  g : ∀ b d, Real' (aM m c (ix3 b 5 d))
  w1 : ∀ j n, Real' (aW1 m c (ix3 0 j n))
  w3 : ∀ j n, Real' (aW3 m c (ix3 0 j n))
  w2 : ∀ n d, Real' (aW2 m c (ix3 0 n d))

variable {m c}

theorem Finite.row (hf : Finite m c) (R : Fin 8704) (d : Fin 2048) : Real' (rowAt (aHl m c) (aHc m c) R d) := by
  unfold rowAt
  split
  exacts [hf.hl _, hf.hc _]

theorem Finite.term (hf : Finite m c) (R : Fin 8704) (d : Fin 2048) (n : Fin 5632) :
    Real' (term (aHl m c) (aHc m c) (aW1 m c) (aW3 m c) (aW2 m c) R d n) :=
  .mul (.mul (.silu (.sum fun j => .mul (hf.row R j) (hf.w1 j n))) (.sum fun j => .mul (hf.row R j) (hf.w3 j n))) (hf.w2 n d)

/-- The result array after the run. -/
theorem final (hf : Finite m c) : (dats m 0 c).arrAt 15 cfg0.N
    = out (aXl m c) (aXc m c) (aHl m c) (aHc m c) (aM m c) (aW1 m c) (aW3 m c) (aW2 m c) := by
  refine (dats m 0 c).arrAt_eq_of_covers 15 _ (by decide +kernel) fun t hflush y => ?_
  have h1 : t.val % 11 = 10 := (flush0_15 t).mp hflush
  blk_simp
  rw [after0_15]
  idx_vars y
  refine (fold m c y0 y1 t.val t.isLt).trans ?_
  have e0 : (((cfg0.win 15).blk t).view.emb (ix2 y0 y1)) = ix2 (blkRow t y0) y1 := by
    have hN := pt_lt t
    blk_ext [idx t]
  rw [e0, h1]
  exact add_blocks_range (A := 11) (n := 512) rfl _ _ (hf.g _ _) _ (fun l => hf.term _ _ l) _ fun s => dif_pos s.isLt

/-! ## The attention layers' weights -/

variable (m c)

/-- Row `r` of the point's slab of 16 weight rows; the points past the last slab stay on it. -/
abbrev slab (t : Fin cfg0.N) (r : Fin 16) : Fin 2048 := ⟨min t.val 127 * 16 + r.val, by omega⟩

theorem slabGq (t : Fin cfg0.N) (r : Fin 16) (d : Fin 2048) : iblk m c 7 t (ix3 0 r d) = aGq m c (ix3 0 (slab t r) d) := by
  blk_ext [iblk, V, idx t]

theorem slabGk (t : Fin cfg0.N) (r : Fin 16) (d : Fin 512) : iblk m c 8 t (ix3 0 r d) = aGk m c (ix3 0 (slab t r) d) := by
  blk_ext [iblk, V, idx t]

theorem slabGv (t : Fin cfg0.N) (r : Fin 16) (d : Fin 512) : iblk m c 9 t (ix3 0 r d) = aGv m c (ix3 0 (slab t r) d) := by
  blk_ext [iblk, V, idx t]

theorem slabGo (t : Fin cfg0.N) (r : Fin 16) (d : Fin 2048) : iblk m c 10 t (ix3 0 r d) = aGo m c (ix3 0 (slab t r) d) := by
  blk_ext [iblk, V, idx t]

theorem slabNq (t : Fin cfg0.N) (r : Fin 16) (d : Fin 2048) : iblk m c 11 t (ix3 0 r d) = aNq m c (ix3 0 (slab t r) d) := by
  blk_ext [iblk, V, idx t]

theorem slabNk (t : Fin cfg0.N) (r : Fin 16) (d : Fin 2048) : iblk m c 12 t (ix3 0 r d) = aNk m c (ix3 0 (slab t r) d) := by
  blk_ext [iblk, V, idx t]

theorem slabNv (t : Fin cfg0.N) (r : Fin 16) (d : Fin 2048) : iblk m c 13 t (ix3 0 r d) = aNv m c (ix3 0 (slab t r) d) := by
  blk_ext [iblk, V, idx t]

theorem slabNo (t : Fin cfg0.N) (r : Fin 16) (d : Fin 2048) : iblk m c 14 t (ix3 0 r d) = aNo m c (ix3 0 (slab t r) d) := by
  blk_ext [iblk, V, idx t]

/-- The slab the three stores of the first weight output leave. -/
def sideOf (Q : FVec Ideal S1x16x2048 .f32) (K V : FVec Ideal S1x16x512 .f32) : Vec Ideal S16x3072 .bf16 := fun i =>
  if h : (i 1).val < 2048 then Q (ix3 0 (i 0) ⟨(i 1).val, h⟩)
  else if h' : (i 1).val < 2560 then K (ix3 0 (i 0) ⟨(i 1).val - 2048, by omega⟩)
  else V (ix3 0 (i 0) ⟨(i 1).val - 2560, by have h : (i 1).val < 3072 := (i 1).isLt; omega⟩)

theorem sideOf_at (Q : FVec Ideal S1x16x2048 .f32) (K V : FVec Ideal S1x16x512 .f32) (r : Fin 16) (d : Fin 3072) :
    sideOf Q K V (ix2 r d) = if h : d.val < 2048 then Q (ix3 0 r ⟨d.val, h⟩)
      else if h' : d.val < 2560 then K (ix3 0 r ⟨d.val - 2048, by omega⟩) else V (ix3 0 r ⟨d.val - 2560, by omega⟩) := rfl

theorem pay2_at (W : FVec Ideal S1x16x2048 .f32) (r : Fin 16) (d : Fin 2048) : k0_pay2 (F := Ideal) W (ix2 r d) = W (ix3 0 r d) := by
  pointwise [k0_pay2]

theorem pay3_at (W : FVec Ideal S1x16x512 .f32) (r : Fin 16) (d : Fin 512) : k0_pay3 (F := Ideal) W (ix2 r d) = W (ix3 0 r d) := by
  pointwise [k0_pay3]

theorem pay4_at (W : FVec Ideal S1x16x512 .f32) (r : Fin 16) (d : Fin 512) : k0_pay4 (F := Ideal) W (ix2 r d) = W (ix3 0 r d) := by
  pointwise [k0_pay4]

theorem pay5_at (W : FVec Ideal S1x16x2048 .f32) (r : Fin 16) (d : Fin 2048) : k0_pay5 (F := Ideal) W (ix2 r d) = W (ix3 0 r d) := by
  pointwise [k0_pay5]

theorem pay6_at (W : FVec Ideal S1x16x2048 .f32) (r : Fin 16) (d : Fin 2048) : k0_pay6 (F := Ideal) W (ix3 0 r d) = W (ix3 0 r d) := by
  pointwise [k0_pay6]

theorem pay8_at (W : FVec Ideal S1x16x2048 .f32) (r : Fin 16) (d : Fin 2048) : k0_pay8 (F := Ideal) (k0_pay7 W) (ix3 0 r d) = W (ix3 0 r d) := by
  pointwise [k0_pay8, k0_pay7]

theorem pay9_at (W : FVec Ideal S1x16x2048 .f32) (r : Fin 16) (d : Fin 2048) : k0_pay9 (F := Ideal) W (ix3 0 r d) = W (ix3 0 r d) := by
  pointwise [k0_pay9]

theorem pay10_at (W : FVec Ideal S1x16x2048 .f32) (r : Fin 16) (d : Fin 2048) : k0_pay10 (F := Ideal) W (ix2 r d) = W (ix3 0 r d) := by
  pointwise [k0_pay10]

theorem pieces16 (Q : FVec Ideal S1x16x2048 .f32) (K V : FVec Ideal S1x16x512 .f32) (y : S16x3072.Idx) :
    View.canon (Val := Elt Ideal) [⟨Rect.unit ![0, 2560] ![16, 512] inb_S16x3072_S16x512_0_2560, k0_pay4 (F := Ideal) V⟩,
    ⟨Rect.unit ![0, 2048] ![16, 512] inb_S16x3072_S16x512_0_2048, k0_pay3 (F := Ideal) K⟩,
    ⟨Rect.unit ![0, 0] ![16, 2048] inb_S16x3072_S16x2048_0_0, k0_pay2 (F := Ideal) Q⟩] y = sideOf Q K V y := by
  refine View.canon_apply_of_pieces (sideOf Q K V) _ ?_ y (View.cover_of_tiledBy _ ![16, 512] (by sl_kernel_rfl) y)
  refine List.forall_mem_cons.2 ⟨fun x => ?_, ?_⟩
  · have hx : x = ix2 (x 0) (x 1) := funext fun a => by fin_cases a <;> rfl
    have hl : (x 1).val < 512 := (x 1).isLt
    refine (congrArg (k0_pay4 (F := Ideal) V) hx).trans ((pay4_at V (x 0) (x 1)).trans ?_)
    unfold sideOf
    rw [dif_neg (by show ¬ 2560 + 1 * (x 1).val < 2048; omega), dif_neg (by show ¬ 2560 + 1 * (x 1).val < 2560; omega)]
    exact congrArg₂ (fun a b => V (ix3 0 a b)) (Fin.ext (by show (x 0).val = 0 + 1 * (x 0).val; omega))
      (Fin.ext (by show (x 1).val = 2560 + 1 * (x 1).val - 2560; omega))
  refine List.forall_mem_cons.2 ⟨fun x => ?_, ?_⟩
  · have hx : x = ix2 (x 0) (x 1) := funext fun a => by fin_cases a <;> rfl
    have hl : (x 1).val < 512 := (x 1).isLt
    refine (congrArg (k0_pay3 (F := Ideal) K) hx).trans ((pay3_at K (x 0) (x 1)).trans ?_)
    unfold sideOf
    rw [dif_neg (by show ¬ 2048 + 1 * (x 1).val < 2048; omega), dif_pos (by show 2048 + 1 * (x 1).val < 2560; omega)]
    exact congrArg₂ (fun a b => K (ix3 0 a b)) (Fin.ext (by show (x 0).val = 0 + 1 * (x 0).val; omega))
      (Fin.ext (by show (x 1).val = 2048 + 1 * (x 1).val - 2048; omega))
  refine List.forall_mem_cons.2 ⟨fun x => ?_, fun pc hpc => nomatch hpc⟩
  have hx : x = ix2 (x 0) (x 1) := funext fun a => by fin_cases a <;> rfl
  have hl : (x 1).val < 2048 := (x 1).isLt
  refine (congrArg (k0_pay2 (F := Ideal) Q) hx).trans ((pay2_at Q (x 0) (x 1)).trans ?_)
  unfold sideOf
  rw [dif_pos (by show 0 + 1 * (x 1).val < 2048; omega)]
  exact congrArg₂ (fun a b => Q (ix3 0 a b)) (Fin.ext (by show (x 0).val = 0 + 1 * (x 0).val; omega))
    (Fin.ext (by show (x 1).val = 0 + 1 * (x 1).val; omega))

/-- The slab the three stores of the stacked weight output leave. -/
def stackOf (Q K V : FVec Ideal S1x16x2048 .f32) : Vec Ideal S3x16x2048 .bf16 := fun i =>
  if (i 0).val = 0 then Q (ix3 0 (i 1) (i 2)) else if (i 0).val = 1 then K (ix3 0 (i 1) (i 2)) else V (ix3 0 (i 1) (i 2))

theorem pieces18 (Q K V : FVec Ideal S1x16x2048 .f32) (y : S3x16x2048.Idx) :
    View.canon (Val := Elt Ideal) [⟨Rect.unit ![2, 0, 0] ![1, 16, 2048] inb_S3x16x2048_S1x16x2048_2_0_0, k0_pay9 (F := Ideal) V⟩,
    ⟨Rect.unit ![1, 0, 0] ![1, 16, 2048] inb_S3x16x2048_S1x16x2048_1_0_0, k0_pay8 (F := Ideal) (k0_pay7 K)⟩,
    ⟨Rect.unit ![0, 0, 0] ![1, 16, 2048] inb_S3x16x2048_S1x16x2048_0_0_0, k0_pay6 (F := Ideal) Q⟩] y = stackOf Q K V y := by
  refine View.canon_apply_of_pieces (stackOf Q K V) _ ?_ y (View.cover_of_tiledBy _ ![1, 16, 2048] (by sl_kernel_rfl) y)
  have hx : ∀ x : S1x16x2048.Idx, x = ix3 0 (x 1) (x 2) := fun x => funext fun a => by
    fin_cases a
    · exact Fin.ext (by have h : (x 0).val < 1 := (x 0).isLt; show (x 0).val = 0; omega)
    all_goals rfl
  have h0 : ∀ x : S1x16x2048.Idx, (x 0).val = 0 := fun x => by have h : (x 0).val < 1 := (x 0).isLt; omega
  have e : ∀ (W : FVec Ideal S1x16x2048 .f32) (x : S1x16x2048.Idx) (a : Fin 16) (b : Fin 2048), (x 1).val = a.val → (x 2).val = b.val →
      W (ix3 0 (x 1) (x 2)) = W (ix3 0 a b) := fun W x a b h1 h2 => congrArg₂ (fun a b => W (ix3 0 a b)) (Fin.ext h1) (Fin.ext h2)
  refine List.forall_mem_cons.2 ⟨fun x => ?_, ?_⟩
  · have := h0 x
    refine (congrArg (k0_pay9 (F := Ideal) V) (hx x)).trans ((pay9_at V (x 1) (x 2)).trans ?_)
    unfold stackOf
    rw [if_neg (by show ¬ 2 + 1 * (x 0).val = 0; omega), if_neg (by show ¬ 2 + 1 * (x 0).val = 1; omega)]
    exact e V x _ _ (by show (x 1).val = 0 + 1 * (x 1).val; omega) (by show (x 2).val = 0 + 1 * (x 2).val; omega)
  refine List.forall_mem_cons.2 ⟨fun x => ?_, ?_⟩
  · have := h0 x
    refine (congrArg (k0_pay8 (F := Ideal) (k0_pay7 K)) (hx x)).trans ((pay8_at K (x 1) (x 2)).trans ?_)
    unfold stackOf
    rw [if_neg (by show ¬ 1 + 1 * (x 0).val = 0; omega), if_pos (by show 1 + 1 * (x 0).val = 1; omega)]
    exact e K x _ _ (by show (x 1).val = 0 + 1 * (x 1).val; omega) (by show (x 2).val = 0 + 1 * (x 2).val; omega)
  refine List.forall_mem_cons.2 ⟨fun x => ?_, fun pc hpc => nomatch hpc⟩
  have := h0 x
  refine (congrArg (k0_pay6 (F := Ideal) Q) (hx x)).trans ((pay6_at Q (x 1) (x 2)).trans ?_)
  unfold stackOf
  rw [if_pos (by show 0 + 1 * (x 0).val = 0; omega)]
  exact e Q x _ _ (by show (x 1).val = 0 + 1 * (x 1).val; omega) (by show (x 2).val = 0 + 1 * (x 2).val; omega)

/-- After every point, the weight outputs' staging buffers hold the slab's weights. -/
theorem left16 (t : Fin cfg0.N) (y : S16x3072.Idx) : (outsAt0 m c t.val t.isLt).2.1 y = sideOf (iblk m c 7 t) (iblk m c 8 t) (iblk m c 9 t) y := by
  by_cases h0 : t.val % 11 = 0
  · rw [outsAt0_A m c t h0]
    dsimp only
    frame_out
    exact pieces16 _ _ _ y
  · rw [outsAt0_B m c t h0]
    dsimp only
    frame_out
    exact pieces16 _ _ _ y

theorem left17 (t : Fin cfg0.N) (r : Fin 16) (d : Fin 2048) : (outsAt0 m c t.val t.isLt).2.2.1 (ix2 r d) = aGo m c (ix3 0 (slab t r) d) := by
  rw [← slabGo]
  by_cases h0 : t.val % 11 = 0
  · rw [outsAt0_A m c t h0]
    dsimp only
    frame_out
    exact pay5_at _ r d
  · rw [outsAt0_B m c t h0]
    dsimp only
    frame_out
    exact pay5_at _ r d

theorem left18 (t : Fin cfg0.N) (y : S3x16x2048.Idx) : (outsAt0 m c t.val t.isLt).2.2.2.1 y = stackOf (iblk m c 11 t) (iblk m c 12 t) (iblk m c 13 t) y := by
  by_cases h0 : t.val % 11 = 0
  · rw [outsAt0_A m c t h0]
    dsimp only
    frame_out
    exact pieces18 _ _ _ y
  · rw [outsAt0_B m c t h0]
    dsimp only
    frame_out
    exact pieces18 _ _ _ y

theorem left19 (t : Fin cfg0.N) (r : Fin 16) (d : Fin 2048) : (outsAt0 m c t.val t.isLt).2.2.2.2 (ix2 r d) = aNo m c (ix3 0 (slab t r) d) := by
  rw [← slabNo]
  by_cases h0 : t.val % 11 = 0
  · rw [outsAt0_A m c t h0]
    dsimp only
    frame_out
    exact pay10_at _ r d
  · rw [outsAt0_B m c t h0]
    dsimp only
    frame_out
    exact pay10_at _ r d

/-- The weight outputs after the run. -/
theorem final16 : (dats m 0 c).arrAt 16 cfg0.N = side (aGq m c) (aGk m c) (aGv m c) := by
  refine (dats m 0 c).arrAt_eq_of_covers 16 _ (by decide +kernel) fun t hflush y => ?_
  blk_simp
  rw [after0_16]
  idx_vars y
  refine (left16 m c t (ix2 y0 y1)).trans ?_
  have e0 : (((cfg0.win 16).blk t).view.emb (ix2 y0 y1)) = ix2 (slab t y0) y1 := by
    blk_ext [idx t]
  rw [e0]
  show sideOf _ _ _ (ix2 y0 y1) = side _ _ _ (ix2 (slab t y0) y1)
  rw [sideOf_at, side_at]
  by_cases h : y1.val < 2048
  · rw [dif_pos h, dif_pos h]
    exact slabGq m c t y0 _
  rw [dif_neg h, dif_neg h]
  by_cases h' : y1.val < 2560
  · rw [dif_pos h', dif_pos h']
    exact slabGk m c t y0 _
  rw [dif_neg h', dif_neg h']
  exact slabGv m c t y0 _

theorem final17 : (dats m 0 c).arrAt 17 cfg0.N = plain (aGo m c) := by
  refine (dats m 0 c).arrAt_eq_of_covers 17 _ (by decide +kernel) fun t hflush y => ?_
  blk_simp
  rw [after0_17]
  idx_vars y
  refine (left17 m c t y0 y1).trans ?_
  have e0 : (((cfg0.win 17).blk t).view.emb (ix2 y0 y1)) = ix2 (slab t y0) y1 := by
    blk_ext [idx t]
  rw [e0]
  rfl

theorem final18 : (dats m 0 c).arrAt 18 cfg0.N = stack (aNq m c) (aNk m c) (aNv m c) := by
  refine (dats m 0 c).arrAt_eq_of_covers 18 _ (by decide +kernel) fun t hflush y => ?_
  blk_simp
  rw [after0_18]
  idx_vars y
  refine (left18 m c t (ix3 y0 y1 y2)).trans ?_
  have e0 : (((cfg0.win 18).blk t).view.emb (ix3 y0 y1 y2)) = ix3 y0 (slab t y1) y2 := by
    blk_ext [idx t]
  rw [e0]
  show stackOf _ _ _ (ix3 y0 y1 y2) = stack _ _ _ (ix3 y0 (slab t y1) y2)
  by_cases h : y0.val = 0
  · exact (if_pos h).trans ((slabNq m c t y1 y2).trans (if_pos (c := y0.val = 0) h).symm)
  by_cases h' : y0.val = 1
  · exact (if_neg h).trans ((if_pos h').trans ((slabNk m c t y1 y2).trans ((if_neg (c := y0.val = 0) h).trans (if_pos (c := y0.val = 1) h')).symm))
  · exact (if_neg h).trans ((if_neg h').trans ((slabNv m c t y1 y2).trans ((if_neg (c := y0.val = 0) h).trans (if_neg (c := y0.val = 1) h')).symm))

theorem final19 : (dats m 0 c).arrAt 19 cfg0.N = plain (aNo m c) := by
  refine (dats m 0 c).arrAt_eq_of_covers 19 _ (by decide +kernel) fun t hflush y => ?_
  blk_simp
  rw [after0_19]
  idx_vars y
  refine (left19 m c t y0 y1).trans ?_
  have e0 : (((cfg0.win 19).blk t).view.emb (ix2 y0 y1)) = ix2 (slab t y0) y1 := by
    blk_ext [idx t]
  rw [e0]
  rfl

end Cert.FirstIdeal.Value

end
-- ==== Proof.FfnFirstRef.lean ====
/-
  The first feed-forward reference read at an index, and the precondition of that call read at an index.
-/
module

public import proofs.«01_k».proof.Proof.FfnFirst
public import proofs.«01_k».proof.Proof.Gen.FirstReferenceIdeal.Run
public import proofs.«01_k».proof.Proof.Gen.FirstReferenceIdeal.Read
public import proofs.«01_k».proof.Pre_finite_first

@[expose] public section

set_option maxRecDepth 16384

noncomputable section

open Idealize.ShloMosaic Idealize.ShloMosaic.TcCoe Idealize.SL.Sem

namespace Cert.FirstReferenceIdeal.Read

open Cert.FirstReferenceIdeal Cert.FirstReferenceIdeal.Gen Cert.Shared

/-- The reference's result is the named function of its arguments. -/
theorem value (x0 : FVec Ideal S2x4096x2048 .f32) (x1 : FVec Ideal S2x256x2048 .f32) (x2 : FVec Ideal S2x4096x2048 .f32)
    (x3 : FVec Ideal S2x256x2048 .f32) (x4 : FVec Ideal S3x6x2048 .f32) (x5 x6 : FVec Ideal S4x2048x5632 .f32)
    (x7 : FVec Ideal S4x5632x2048 .f32) :
    val_main_v36 (F := Ideal) x0 x1 x2 x3 x4 x5 x6 x7 = Cert.FirstIdeal.Value.out x0 x1 x2 x3 x4 x5 x6 x7 := by
  funext i
  idx_vars i
  unfold Cert.FirstIdeal.Value.out Cert.FirstIdeal.Value.term Cert.FirstIdeal.Value.up modAt rowAt
  pointwise [val_main_v0, val_main_v1, val_main_v2, val_main_v3, val_main_v4, val_main_v5, val_main_v6, val_main_v7, val_main_v8, val_main_v9, val_main_call0_v0, val_main_call0_v1, val_main_call0_cst, val_main_call0_v2, val_main_call0_v3, val_main_call0_cst_0, val_main_call0_v4, val_main_call0_v5, val_main_v10, val_main_v11, val_main_v12, val_main_v13, val_main_v14, val_main_v15, val_main_v16, val_main_v17, val_main_v18, val_main_v19, val_main_v20, val_main_v21, val_main_v22, val_main_v23, val_main_v24, val_main_v25, val_main_call1_v0, val_main_call1_v1, val_main_call1_cst, val_main_call1_v2, val_main_call1_v3, val_main_call1_cst_0, val_main_call1_v4, val_main_call1_v5, val_main_v26, val_main_v27, val_main_v28, val_main_v29, val_main_v30, val_main_v31, val_main_v32, val_main_v33, val_main_v34, val_main_v35, val_main_v36]
  by_cases h : i0.val < 8192
  · simp only [dif_pos h, silu_eq, modIdx]
  · simp only [dif_neg h, silu_eq, modIdx_ctx h]

/-- The three projections side by side. -/
theorem value_side (x9 : FVec Ideal S1x2048x2048 .f32) (x10 x11 : FVec Ideal S1x2048x512 .f32) :
    val_main_v41 (F := Ideal) x9 x10 x11 = Cert.FirstIdeal.Value.side x9 x10 x11 := by
  funext i
  idx_vars i
  rw [Cert.FirstIdeal.Value.side_at]
  pointwise [val_main_v37, val_main_v38, val_main_v39, val_main_v40, val_main_v41]
  by_cases h : i1.val < 2048
  · rw [dif_pos h, dif_pos h]
  rw [dif_neg h, dif_neg h]
  by_cases h' : i1.val < 2560
  · rw [dif_pos h', dif_pos (by omega)]
  rw [dif_neg h', dif_neg (by omega)]
  exact congrArg (fun d => x11 (ix3 0 i0 d)) (Fin.ext (by show i1.val - 2048 - 512 = i1.val - 2560; omega))

theorem value_gqa_out (x12 : FVec Ideal S1x2048x2048 .f32) :
    val_main_v43 (F := Ideal) x12 = Cert.FirstIdeal.Value.plain x12 := by
  funext i
  idx_vars i
  unfold Cert.FirstIdeal.Value.plain
  pointwise [val_main_v42, val_main_v43]

/-- The three stacked projections. -/
theorem value_stack (x13 x14 x15 : FVec Ideal S1x2048x2048 .f32) :
    val_main_v51 (F := Ideal) x13 x14 x15 = Cert.FirstIdeal.Value.stack x13 x14 x15 := by
  funext i
  idx_vars i
  unfold Cert.FirstIdeal.Value.stack
  pointwise [val_main_v44, val_main_v45, val_main_v46, val_main_v47, val_main_v48, val_main_v49, val_main_v50, val_main_v51]
  fin_cases i0 <;> rfl

theorem value_nat_out (x16 : FVec Ideal S1x2048x2048 .f32) :
    val_main_v53 (F := Ideal) x16 = Cert.FirstIdeal.Value.plain x16 := by
  funext i
  idx_vars i
  unfold Cert.FirstIdeal.Value.plain
  pointwise [val_main_v52, val_main_v53]

end Cert.FirstReferenceIdeal.Read

namespace Cert.FirstIdeal.Value

open Cert.FirstIdeal Cert.FirstIdeal.Gen Cert.Shared

/-- The precondition, read at an index: every element it ranges over is a real number. -/
theorem finite_of_pre [Cert.Pre_finite_first.Facts] {m : (ℓ : Loc nD τ sig) → Buf (Elt Ideal) ℓ} {c : Dev nD} {g : FVec Ideal S2048 .f32}
    (h : Cert.Pre_finite_first.fn (F := Ideal) (aXl m c) (aXc m c) (aHl m c) (aHc m c) (aM m c) (aW1 m c) (aW3 m c) (aW2 m c) g
      (aGq m c) (aGk m c) (aGv m c) (aGo m c) (aNq m c) (aNk m c) (aNv m c) (aNo m c) = fun _ => 1#1) :
    Finite m c := by
  have h := congrFun h ix0
  unfold Cert.Pre_finite_first.fn Cert.Pre_finite_first.fn_part1 Cert.Pre_finite_first.fn_part2 at h
  pointwise at h
  obtain ⟨h, h2⟩ := IntOp.andi_eq_one.1 h
  obtain ⟨h, h3⟩ := IntOp.andi_eq_one.1 h
  obtain ⟨h, h1⟩ := IntOp.andi_eq_one.1 h
  obtain ⟨h, hg⟩ := IntOp.andi_eq_one.1 h
  obtain ⟨hl, hc⟩ := IntOp.andi_eq_one.1 h
  refine ⟨fun i => ?_, fun i => ?_, fun b d => ?_, fun j n => ?_, fun j n => ?_, fun n d => ?_⟩
  · rw [eq_ix3 i]; exact real_of_fold _ hl (i 0, i 1, i 2)
  · rw [eq_ix3 i]; exact real_of_fold _ hc (i 0, i 1, i 2)
  · exact real_of_fold _ hg (b, d)
  · exact real_of_fold _ h1 (j, n)
  · exact real_of_fold _ h3 (j, n)
  · exact real_of_fold _ h2 (n, d)

end Cert.FirstIdeal.Value

end
-- ==== Proof.OutProj.lean ====
/-
  The value of the attention layers' output projection.
-/
module

public import proofs.«01_k».proof.Defs
public import proofs.«01_k».proof.Proof.Shared
public import proofs.«01_k».proof.Proof.Gen.OutIdeal.Value

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen Cert.Shared

variable (m : (ℓ : Loc nD τ sig) → Buf (Elt Ideal) ℓ) (c : Dev nD)

abbrev aOl : FVec Ideal S2x4096x2048 .f32 := m ((c : Thread nD τ).loc main_arg0)
abbrev aOc : FVec Ideal S2x256x2048 .f32 := m ((c : Thread nD τ).loc main_arg1)
abbrev aXl : FVec Ideal S2x4096x2048 .f32 := m ((c : Thread nD τ).loc main_arg2)
abbrev aXc : FVec Ideal S2x256x2048 .f32 := m ((c : Thread nD τ).loc main_arg3)
abbrev aM : FVec Ideal S3x6x2048 .f32 := m ((c : Thread nD τ).loc main_arg4)
abbrev aW : FVec Ideal S2048x2048 .f32 := m ((c : Thread nD τ).loc main_arg5)
abbrev aG : FVec Ideal S2048 .f32 := m ((c : Thread nD τ).loc main_arg6)

theorem pt_lt (t : Fin cfg0.N) : t.val < 17 := lt_of_lt_of_eq t.isLt N_0

/-- Row `r` of the point's block of 512 rows. -/
abbrev blkRow (t : Fin cfg0.N) (r : Fin 512) : Fin 8704 :=
  ⟨t.val * 512 + r.val, by have := pt_lt t; omega⟩

/-- The windows' block indices at every grid point. -/
theorem idx : ∀ t : Fin cfg0.N, win0_0.index t = ![min t.val 15, 0] ∧ win0_1.index t = ![t.val - 16, 0]
    ∧ win0_2.index t = ![t.val, 0] ∧ win0_3.index t = ![t.val / 8, 0, 0] ∧ win0_4.index t = ![0, 0]
    ∧ win0_5.index t = ![0, 0] ∧ win0_6.index t = ![t.val, 0] ∧ win0_7.index t = ![t.val, 0] :=
  (by decide +kernel : ∀ t : Fin grid0.N, _)

/-- The rows after the residual: the attention rows projected by `W`, gated by the third modulation row. -/
def resid (Ol : FVec Ideal S2x4096x2048 .f32) (Oc : FVec Ideal S2x256x2048 .f32) (Xl : FVec Ideal S2x4096x2048 .f32) (Xc : FVec Ideal S2x256x2048 .f32)
    (M : FVec Ideal S3x6x2048 .f32) (W : FVec Ideal S2048x2048 .f32) (R : Fin 8704) (d : Fin 2048) : EReal :=
  rowAt Xl Xc R d + modAt M 2 R d * ∑ j : Fin 2048, rowAt Ol Oc R j * W (ix2 j d)

/-- The same rows normed and modulated. -/
def normed (Ol : FVec Ideal S2x4096x2048 .f32) (Oc : FVec Ideal S2x256x2048 .f32) (Xl : FVec Ideal S2x4096x2048 .f32) (Xc : FVec Ideal S2x256x2048 .f32)
    (M : FVec Ideal S3x6x2048 .f32) (W : FVec Ideal S2048x2048 .f32) (G : FVec Ideal S2048 .f32) (R : Fin 8704) (d : Fin 2048) : EReal :=
  normMod (resid Ol Oc Xl Xc M W R) (fun x => G (ix1 x)) (modAt M 3 R) (modAt M 4 R) d

/-- The residual rows' array at entry. -/
theorem rowsX (R : Fin 8704) (d : Fin 2048) : V m c main_v2 (ix2 R d) = rowAt (aXl m c) (aXc m c) R d := by
  entry_read
  exact concat_rows _ _ _ _ _ R d

theorem blkX (t : Fin cfg0.N) (r : Fin 512) (d : Fin 2048) : iblk m c 2 t (ix2 r d) = rowAt (aXl m c) (aXc m c) (blkRow t r) d := by
  have hN := pt_lt t
  rw [← rowsX]
  blk_ext [iblk, idx t]

/-- The attention rows: the latent window's block below grid point 16, the context window's from there on. -/
theorem blkO (t : Fin cfg0.N) (r : Fin 512) (d : Fin 2048) :
    (if t.val < 16 then iblk m c 0 t (ix2 r d) else iblk m c 1 t (ix2 r d)) = rowAt (aOl m c) (aOc m c) (blkRow t r) d := by
  have hN := pt_lt t
  unfold rowAt
  by_cases h : t.val < 16
  · rw [if_pos h, dif_pos (by show t.val * 512 + r.val < 8192; omega)]
    blk_point [iblk, V, idx t]
  · rw [if_neg h, dif_neg (by show ¬t.val * 512 + r.val < 8192; omega)]
    blk_point [iblk, V, idx t]

theorem blkM (t : Fin cfg0.N) (r : Fin 512) (k : Fin 6) (d : Fin 2048) : iblk m c 3 t (ix3 0 k d) = modAt (aM m c) k (blkRow t r) d := by
  have hN := pt_lt t
  unfold modAt modIdx
  blk_ext [iblk, V, idx t]

theorem isLatent : ∀ t : Fin cfg0.N, Scalar.cmpi CmpIPredicate.slt (BitVec.ofNat 32 ↑(grid0.coords t 0)) 16#32
    = if t.val < 16 then 1#1 else 0#1 :=
  (by decide +kernel : ∀ t : Fin grid0.N, _)

theorem pick (t : Fin cfg0.N) (r : Fin 512) (x : Fin 2048) :
    Scalar.select (Scalar.cmpi CmpIPredicate.slt (BitVec.ofNat 32 ↑(grid0.coords t 0)) 16#32) (iblk m c 0 t (ix2 r x)) (iblk m c 1 t (ix2 r x))
      = rowAt (aOl m c) (aOc m c) (blkRow t r) x := by
  rw [← blkO]
  have e := isLatent t
  by_cases h : t.val < 16
  · rw [if_pos h] at e ⊢
    rw [e]
    rfl
  · rw [if_neg h] at e ⊢
    rw [e]
    rfl

theorem res (t : Fin cfg0.N) (r : Fin 512) (d : Fin 2048) :
    k0_pay2 (grid0.coords t) (iblk m c 0 t) (iblk m c 1 t) (iblk m c 2 t) (View.ld (iblk m c 3 t) r0_1) (iblk m c 4 t) (ix2 r d)
      = resid (aOl m c) (aOc m c) (aXl m c) (aXc m c) (aM m c) (aW m c) (blkRow t r) d := by
  pointwise [k0_pay2, resid]
  have hN := pt_lt t
  rw [blkX, ← blkM]
  refine congrArg _ (congrArg _ (Finset.sum_congr rfl fun x _ => congrArg₂ (· * ·) (pick m c t r x) ?_))
  blk_point [iblk, V, idx t]

theorem nrm (t : Fin cfg0.N) (r : Fin 512) (d : Fin 2048) :
    k0_pay1 (k0_pay2 (grid0.coords t) (iblk m c 0 t) (iblk m c 1 t) (iblk m c 2 t) (View.ld (iblk m c 3 t) r0_1) (iblk m c 4 t))
            (k0_pay3 (iblk m c 5 t)) (k0_pay4 (View.ld (iblk m c 3 t) r0_4)) (k0_pay5 (View.ld (iblk m c 3 t) r0_5))
            (k0_pay6 (grid0.coords t) (iblk m c 0 t) (iblk m c 1 t) (iblk m c 2 t) (View.ld (iblk m c 3 t) r0_1) (iblk m c 4 t)) (ix2 r d)
      = normed (aOl m c) (aOc m c) (aXl m c) (aXc m c) (aM m c) (aW m c) (aG m c) (blkRow t r) d := by
  pointwise [k0_pay1, k0_pay3, k0_pay4, k0_pay5, k0_pay6, normed, normMod]
  have hN := pt_lt t
  simp only [res, ← blkM]
  blk_point [iblk, V, idx t]

theorem final6 : (dats m 0 c).arrAt 6 cfg0.N
    = fun i : S8704x2048.Idx => resid (aOl m c) (aOc m c) (aXl m c) (aXc m c) (aM m c) (aW m c) (i 0) (i 1) := by
  refine (dats m 0 c).arrAt_eq_of_covers 6 _ (by decide +kernel) fun t hflush y => ?_
  have hN := pt_lt t
  blk_simp
  rw [after0_6]
  frame_out
  idx_vars y
  rw [show ((cfg0.win 6).blk t).view.emb (ix2 y0 y1) = ix2 (blkRow t y0) y1 by blk_ext [idx t]]
  exact res m c t y0 y1

theorem final7 : (dats m 0 c).arrAt 7 cfg0.N
    = fun i : S8704x2048.Idx => normed (aOl m c) (aOc m c) (aXl m c) (aXc m c) (aM m c) (aW m c) (aG m c) (i 0) (i 1) := by
  refine (dats m 0 c).arrAt_eq_of_covers 7 _ (by decide +kernel) fun t hflush y => ?_
  have hN := pt_lt t
  blk_simp
  rw [after0_7]
  frame_out
  idx_vars y
  rw [show ((cfg0.win 7).blk t).view.emb (ix2 y0 y1) = ix2 (blkRow t y0) y1 by blk_ext [idx t]]
  exact nrm m c t y0 y1

end Cert.OutIdeal.Value

end
-- ==== Proof.OutRef.lean ====
/-
  The output projection's reference read at an index.
-/
module

public import proofs.«01_k».proof.Proof.OutProj
public import proofs.«01_k».proof.Proof.Gen.OutReferenceIdeal.Run
public import proofs.«01_k».proof.Proof.Gen.OutReferenceIdeal.Read

@[expose] public section

set_option maxRecDepth 200000

noncomputable section

open Idealize.ShloMosaic Idealize.ShloMosaic.TcCoe Idealize.SL.Sem

namespace Cert.OutReferenceIdeal.Read

open Cert.OutReferenceIdeal Cert.OutReferenceIdeal.Gen Cert.Shared

/-- The first result is the named function of the arguments. -/
theorem value_y (x0 : FVec Ideal S2x4096x2048 .f32) (x1 : FVec Ideal S2x256x2048 .f32) (x2 : FVec Ideal S2x4096x2048 .f32)
    (x3 : FVec Ideal S2x256x2048 .f32) (x4 : FVec Ideal S3x6x2048 .f32) (x5 : FVec Ideal S2048x2048 .f32) :
    val_main_v66 (F := Ideal) x0 x1 x2 x3 x4 x5 = fun i => Cert.OutIdeal.Value.resid x0 x1 x2 x3 x4 x5 (i 0) (i 1) := by
  funext i
  idx_vars i
  unfold Cert.OutIdeal.Value.resid modAt rowAt
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_cst_2, val_main_v26, val_main_v27, val_main_v28, val_main_v29, val_main_v30, val_main_v31, val_main_v32, val_main_v33, val_main_v34, val_main_v35, val_main_v36, val_main_v37, val_main_v38, val_main_v39, val_main_cst_3, val_main_v40, val_main_v41, val_main_cst_4, val_main_v42, val_main_v43, val_main_cst_5, val_main_v44, val_main_v45, val_main_v46, val_main_v47, val_main_v48, val_main_v49, val_main_v50, val_main_v51, val_main_v52, val_main_v53, val_main_v54, val_main_v55, val_main_cst_6, val_main_v56, val_main_v57, val_main_v58, val_main_v59, val_main_v60, val_main_v61, val_main_v62, val_main_v63, val_main_v64, val_main_v65, val_main_v66, val_main_v67, val_main_v68, val_main_v69, val_main_v70]
  by_cases h : i0.val < 8192
  · simp only [dif_pos h, modIdx]
  · simp only [dif_neg h, modIdx_ctx h]

/-- The second result is the named function of the arguments. -/
theorem value_h (x0 : FVec Ideal S2x4096x2048 .f32) (x1 : FVec Ideal S2x256x2048 .f32) (x2 : FVec Ideal S2x4096x2048 .f32)
    (x3 : FVec Ideal S2x256x2048 .f32) (x4 : FVec Ideal S3x6x2048 .f32) (x5 : FVec Ideal S2048x2048 .f32) (x6 : FVec Ideal S2048 .f32) :
    val_main_v70 (F := Ideal) x0 x1 x2 x3 x4 x5 x6 = fun i => Cert.OutIdeal.Value.normed x0 x1 x2 x3 x4 x5 x6 (i 0) (i 1) := by
  funext i
  idx_vars i
  unfold Cert.OutIdeal.Value.normed Cert.OutIdeal.Value.resid normMod modAt rowAt
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_cst_2, val_main_v26, val_main_v27, val_main_v28, val_main_v29, val_main_v30, val_main_v31, val_main_v32, val_main_v33, val_main_v34, val_main_v35, val_main_v36, val_main_v37, val_main_v38, val_main_v39, val_main_cst_3, val_main_v40, val_main_v41, val_main_cst_4, val_main_v42, val_main_v43, val_main_cst_5, val_main_v44, val_main_v45, val_main_v46, val_main_v47, val_main_v48, val_main_v49, val_main_v50, val_main_v51, val_main_v52, val_main_v53, val_main_v54, val_main_v55, val_main_cst_6, val_main_v56, val_main_v57, val_main_v58, val_main_v59, val_main_v60, val_main_v61, val_main_v62, val_main_v63, val_main_v64, val_main_v65, val_main_v66, val_main_v67, val_main_v68, val_main_v69, val_main_v70]
  by_cases h : i0.val < 8192
  · simp only [dif_pos h, modIdx, mul_assoc]
  · simp only [dif_neg h, modIdx_ctx h, mul_assoc]

end Cert.OutReferenceIdeal.Read

end
-- ==== Proof.NatProj.lean ====
/-
  The value of the neighbourhood attention's norm and projections.
-/
module

public import proofs.«01_k».proof.Defs
public import proofs.«01_k».proof.Proof.Shared
public import proofs.«01_k».proof.Proof.Gen.NatIdeal.Value

@[expose] public section

set_option maxRecDepth 16384

noncomputable section

open Idealize.ShloMosaic Idealize.ShloMosaic.TcCoe Idealize.SL.Sem
open Idealize.ShloMosaic.Pipeline (Dat)

namespace Cert.NatIdeal.Value

open Cert.NatIdeal Cert.NatIdeal.Gen Cert.Shared

variable (m : (ℓ : Loc nD τ sig) → Buf (Elt Ideal) ℓ) (c : Dev nD)

abbrev aXl : FVec Ideal S2x4096x2048 .f32 := m ((c : Thread nD τ).loc main_arg0)
abbrev aXc : FVec Ideal S2x256x2048 .f32 := m ((c : Thread nD τ).loc main_arg1)
abbrev aM : FVec Ideal S3x6x2048 .f32 := m ((c : Thread nD τ).loc main_arg2)
abbrev aG : FVec Ideal S2048 .f32 := m ((c : Thread nD τ).loc main_arg3)
abbrev aWq : FVec Ideal S2048x2048 .f32 := m ((c : Thread nD τ).loc main_arg4)
abbrev aWk : FVec Ideal S2048x2048 .f32 := m ((c : Thread nD τ).loc main_arg5)
abbrev aWv : FVec Ideal S2048x2048 .f32 := m ((c : Thread nD τ).loc main_arg6)

theorem pt_lt (t : Fin cfg0.N) : t.val < 17 := lt_of_lt_of_eq t.isLt N_0

/-- Row `r` of the point's block of 512 rows. -/
abbrev blkRow (t : Fin cfg0.N) (r : Fin 512) : Fin 8704 :=
  ⟨t.val * 512 + r.val, by have := pt_lt t; omega⟩

/-- The windows' block indices at every grid point. -/
theorem idx : ∀ t : Fin cfg0.N, win0_0.index t = ![t.val, 0] ∧ win0_1.index t = ![t.val / 8, 0, 0]
    ∧ win0_2.index t = ![0, 0] ∧ win0_3.index t = ![0, 0, 0] ∧ win0_4.index t = ![0, t.val, 0] :=
  (by decide +kernel : ∀ t : Fin grid0.N, _)

/-- The normed and modulated row. -/
def hid (Xl : FVec Ideal S2x4096x2048 .f32) (Xc : FVec Ideal S2x256x2048 .f32) (M : FVec Ideal S3x6x2048 .f32) (G : FVec Ideal S2048 .f32)
    (R : Fin 8704) (d : Fin 2048) : EReal :=
  normMod (rowAt Xl Xc R) (fun x => G (ix1 x)) (modAt M 0 R) (modAt M 1 R) d

/-- One projection of the rows. -/
def proj (Xl : FVec Ideal S2x4096x2048 .f32) (Xc : FVec Ideal S2x256x2048 .f32) (M : FVec Ideal S3x6x2048 .f32) (G : FVec Ideal S2048 .f32)
    (W : FVec Ideal S2048x2048 .f32) (R : Fin 8704) (d : Fin 2048) : EReal :=
  ∑ j : Fin 2048, hid Xl Xc M G R j * W (ix2 j d)

/-- The three projections, stacked; the first scaled. -/
def out (Xl : FVec Ideal S2x4096x2048 .f32) (Xc : FVec Ideal S2x256x2048 .f32) (M : FVec Ideal S3x6x2048 .f32) (G : FVec Ideal S2048 .f32)
    (Wq Wk Wv : FVec Ideal S2048x2048 .f32) : S3x8704x2048.Idx → EReal := fun i =>
  if _h : (i 0).val < 1 then proj Xl Xc M G Wq (i 1) (i 2) * Ideal.ofBits .f32 1040356334#32
  else if _h : (i 0).val - 1 < 1 then proj Xl Xc M G Wk (i 1) (i 2) else proj Xl Xc M G Wv (i 1) (i 2)

theorem out_q (Xl : FVec Ideal S2x4096x2048 .f32) (Xc : FVec Ideal S2x256x2048 .f32) (M : FVec Ideal S3x6x2048 .f32) (G : FVec Ideal S2048 .f32)
    (Wq Wk Wv : FVec Ideal S2048x2048 .f32) (i : S3x8704x2048.Idx) (h : (i 0).val = 0) :
    out Xl Xc M G Wq Wk Wv i = proj Xl Xc M G Wq (i 1) (i 2) * Ideal.ofBits .f32 1040356334#32 := dif_pos (by omega)

theorem out_k (Xl : FVec Ideal S2x4096x2048 .f32) (Xc : FVec Ideal S2x256x2048 .f32) (M : FVec Ideal S3x6x2048 .f32) (G : FVec Ideal S2048 .f32)
    (Wq Wk Wv : FVec Ideal S2048x2048 .f32) (i : S3x8704x2048.Idx) (h : (i 0).val = 1) :
    out Xl Xc M G Wq Wk Wv i = proj Xl Xc M G Wk (i 1) (i 2) := (dif_neg (by omega)).trans (dif_pos (by omega))

theorem out_v (Xl : FVec Ideal S2x4096x2048 .f32) (Xc : FVec Ideal S2x256x2048 .f32) (M : FVec Ideal S3x6x2048 .f32) (G : FVec Ideal S2048 .f32)
    (Wq Wk Wv : FVec Ideal S2048x2048 .f32) (i : S3x8704x2048.Idx) (h : (i 0).val = 2) :
    out Xl Xc M G Wq Wk Wv i = proj Xl Xc M G Wv (i 1) (i 2) := (dif_neg (by omega)).trans (dif_neg (by omega))

theorem rowsX (R : Fin 8704) (d : Fin 2048) : V m c main_v2 (ix2 R d) = rowAt (aXl m c) (aXc m c) R d := by
  entry_read
  exact concat_rows _ _ _ _ _ R d

theorem blkX (t : Fin cfg0.N) (r : Fin 512) (d : Fin 2048) : iblk m c 0 t (ix2 r d) = rowAt (aXl m c) (aXc m c) (blkRow t r) d := by
  have hN := pt_lt t
  rw [← rowsX]
  blk_ext [iblk, idx t]

theorem blkM (t : Fin cfg0.N) (r : Fin 512) (k : Fin 6) (d : Fin 2048) : iblk m c 1 t (ix3 0 k d) = modAt (aM m c) k (blkRow t r) d := by
  have hN := pt_lt t
  unfold modAt modIdx
  blk_ext [iblk, V, idx t]

/-- The block's normed and modulated rows. -/
abbrev hidBlk (t : Fin cfg0.N) : FVec Ideal S512x2048 .bf16 :=
  k0_pay3 (View.ld (iblk m c 0 t) r0_0) (View.ld (iblk m c 2 t) r0_1) (View.ld (iblk m c 1 t) r0_2) (View.ld (iblk m c 1 t) r0_3)

theorem hidAt (t : Fin cfg0.N) (r : Fin 512) (d : Fin 2048) :
    hidBlk m c t (ix2 r d) = hid (aXl m c) (aXc m c) (aM m c) (aG m c) (blkRow t r) d := by
  pointwise [k0_pay3, hid, normMod]
  have hN := pt_lt t
  simp only [blkX, ← blkM]
  blk_point [iblk, V, idx t]

/-- The stacked weights, read at an index. -/
theorem stack_at (A B C : FVec Ideal S2048x2048 .f32) (p : Fin 3) (j d : Fin 2048) :
    concatenate S3x2048x2048 0 [⟨S1x2048x2048, broadcastInDim S1x2048x2048 ![1, 2] bcast_S2048x2048_S1x2048x2048_1_2 A⟩,
        ⟨S1x2048x2048, broadcastInDim S1x2048x2048 ![1, 2] bcast_S2048x2048_S1x2048x2048_1_2 B⟩,
        ⟨S1x2048x2048, broadcastInDim S1x2048x2048 ![1, 2] bcast_S2048x2048_S1x2048x2048_1_2 C⟩]
        concatenates_S1x2048x2048_S1x2048x2048_S1x2048x2048_S3x2048x2048_d0 (ix3 p j d)
      = if _h : p.val < 1 then A (ix2 j d) else if _h : p.val - 1 < 1 then B (ix2 j d) else C (ix2 j d) := by
  pointwise

theorem rowsW (p : Fin 3) (j d : Fin 2048) : V m c main_v7 (ix3 p j d)
    = if _h : p.val < 1 then aWq m c (ix2 j d) else if _h : p.val - 1 < 1 then aWk m c (ix2 j d) else aWv m c (ix2 j d) := by
  unfold V
  after_results
  exact stack_at _ _ _ p j d

theorem blkW (t : Fin cfg0.N) (p : Fin 3) (j d : Fin 2048) : iblk m c 3 t (ix3 p j d) = V m c main_v7 (ix3 p j d) := by
  have hN := pt_lt t
  blk_ext [iblk, idx t]

theorem ldq (B : Vec Ideal S3x2048x2048 .bf16) (j d : Fin 2048) : View.ld (Val := Elt Ideal) B r0_4 (ix3 0 j d) = B (ix3 0 j d) := by
  pointwise

theorem ldk (B : Vec Ideal S3x2048x2048 .bf16) (j d : Fin 2048) : View.ld (Val := Elt Ideal) B r0_6 (ix3 0 j d) = B (ix3 1 j d) := by
  pointwise

theorem ldv (B : Vec Ideal S3x2048x2048 .bf16) (j d : Fin 2048) : View.ld (Val := Elt Ideal) B r0_8 (ix3 0 j d) = B (ix3 2 j d) := by
  pointwise

theorem wq (t : Fin cfg0.N) (j d : Fin 2048) : View.ld (iblk m c 3 t) r0_4 (ix3 0 j d) = aWq m c (ix2 j d) := by
  rw [ldq, blkW, rowsW]
  exact dif_pos (by decide)

theorem wk (t : Fin cfg0.N) (j d : Fin 2048) : View.ld (iblk m c 3 t) r0_6 (ix3 0 j d) = aWk m c (ix2 j d) := by
  rw [ldk, blkW, rowsW]
  exact (dif_neg (by decide)).trans (dif_pos (by decide))

theorem wv (t : Fin cfg0.N) (j d : Fin 2048) : View.ld (iblk m c 3 t) r0_8 (ix3 0 j d) = aWv m c (ix2 j d) := by
  rw [ldv, blkW, rowsW]
  exact (dif_neg (by decide)).trans (dif_neg (by decide))

theorem pay1_at (H : FVec Ideal S512x2048 .bf16) (W : FVec Ideal S1x2048x2048 .bf16) (r : Fin 512) (d : Fin 2048) :
    k0_pay1 H W (ix3 0 r d) = ∑ j : Fin 2048, H (ix2 r j) * W (ix3 0 j d) := by
  pointwise [k0_pay1]

theorem pay2_at (H : FVec Ideal S512x2048 .bf16) (W : FVec Ideal S1x2048x2048 .bf16) (r : Fin 512) (d : Fin 2048) :
    k0_pay2 H W (ix3 0 r d) = ∑ j : Fin 2048, H (ix2 r j) * W (ix3 0 j d) := by
  pointwise [k0_pay2]

theorem pay4_at (x0 : FVec Ideal S512x2048 .f32) (x1 : FVec Ideal S1x2048 .f32) (x2 x3 : FVec Ideal S1x1x2048 .f32)
    (W : FVec Ideal S1x2048x2048 .bf16) (r : Fin 512) (d : Fin 2048) :
    k0_pay4 x0 x1 x2 x3 W (ix3 0 r d)
      = (∑ j : Fin 2048, k0_pay3 x0 x1 x2 x3 (ix2 r j) * W (ix3 0 j d)) * Ideal.ofBits .f32 1040356334#32 := by
  pointwise [k0_pay4]

theorem piece0 (t : Fin cfg0.N) (r : Fin 512) (d : Fin 2048) :
    k0_pay2 (k0_pay5 (iblk m c 0 t) (iblk m c 1 t) (iblk m c 2 t) (iblk m c 3 t)) (View.ld (iblk m c 3 t) r0_8) (ix3 0 r d)
      = proj (aXl m c) (aXc m c) (aM m c) (aG m c) (aWv m c) (blkRow t r) d := by
  rw [pay2_at]
  refine Finset.sum_congr rfl fun j _ => ?_
  rw [wv, k0_pay5]
  exact congrArg (fun z : EReal => z * _) (hidAt m c t r j)

theorem piece1 (t : Fin cfg0.N) (r : Fin 512) (d : Fin 2048) :
    k0_pay1 (k0_pay5 (iblk m c 0 t) (iblk m c 1 t) (iblk m c 2 t) (iblk m c 3 t)) (View.ld (iblk m c 3 t) r0_6) (ix3 0 r d)
      = proj (aXl m c) (aXc m c) (aM m c) (aG m c) (aWk m c) (blkRow t r) d := by
  rw [pay1_at]
  refine Finset.sum_congr rfl fun j _ => ?_
  rw [wk, k0_pay5]
  exact congrArg (fun z : EReal => z * _) (hidAt m c t r j)

theorem whole_x (B : Vec Ideal S512x2048 .f32) : View.ld (Val := Elt Ideal) B r0_0 = B :=
  View.ld_unit_zero (by funext a; fin_cases a <;> rfl) _ _

theorem whole_g (B : Vec Ideal S1x2048 .f32) : View.ld (Val := Elt Ideal) B r0_1 = B :=
  View.ld_unit_zero (by funext a; fin_cases a <;> rfl) _ _

theorem piece2 (t : Fin cfg0.N) (r : Fin 512) (d : Fin 2048) :
    k0_pay4 (iblk m c 0 t) (iblk m c 2 t) (View.ld (iblk m c 1 t) r0_2) (View.ld (iblk m c 1 t) r0_3)
        (View.ld (iblk m c 3 t) r0_4) (ix3 0 r d)
      = proj (aXl m c) (aXc m c) (aM m c) (aG m c) (aWq m c) (blkRow t r) d * Ideal.ofBits .f32 1040356334#32 := by
  rw [pay4_at, ← whole_x (iblk m c 0 t), ← whole_g (iblk m c 2 t)]
  refine congrArg (fun z : EReal => z * Ideal.ofBits .f32 1040356334#32) (Finset.sum_congr rfl fun j _ => ?_)
  rw [wq]
  exact congrArg (fun z : EReal => z * _) (hidAt m c t r j)

theorem final : (dats m 0 c).arrAt 4 cfg0.N = out (aXl m c) (aXc m c) (aM m c) (aG m c) (aWq m c) (aWk m c) (aWv m c) := by
  refine (dats m 0 c).arrAt_eq_of_covers 4 _ (by decide +kernel) fun t hflush y => ?_
  have hN := pt_lt t
  blk_simp
  rw [after0_4]
  frame_out
  idx_vars y
  rw [show ((cfg0.win 4).blk t).view.emb (ix3 y0 y1 y2) = ix3 y0 (blkRow t y1) y2 by blk_ext [idx t]]
  canon_tiles x h
  · have e0 : y0.val = 2 + (x 0).val := h0
    obtain rfl : y1 = x 1 := Fin.ext h1
    obtain rfl : y2 = x 2 := Fin.ext h2
    refine (congrArg _ (show x = ix3 0 (x 1) (x 2) by blk_ext [])).trans ?_
    exact (piece0 m c t (x 1) (x 2)).trans
      (out_v _ _ _ _ _ _ _ (ix3 y0 (blkRow t (x 1)) (x 2)) (by show y0.val = 2; omega)).symm
  · have e0 : y0.val = 1 + (x 0).val := h0
    obtain rfl : y1 = x 1 := Fin.ext h1
    obtain rfl : y2 = x 2 := Fin.ext h2
    refine (congrArg _ (show x = ix3 0 (x 1) (x 2) by blk_ext [])).trans ?_
    exact (piece1 m c t (x 1) (x 2)).trans
      (out_k _ _ _ _ _ _ _ (ix3 y0 (blkRow t (x 1)) (x 2)) (by show y0.val = 1; omega)).symm
  · have e0 : y0.val = (x 0).val := h0
    obtain rfl : y1 = x 1 := Fin.ext h1
    obtain rfl : y2 = x 2 := Fin.ext h2
    refine (congrArg _ (show x = ix3 0 (x 1) (x 2) by blk_ext [])).trans ?_
    exact (piece2 m c t (x 1) (x 2)).trans
      (out_q _ _ _ _ _ _ _ (ix3 y0 (blkRow t (x 1)) (x 2)) (by show y0.val = 0; omega)).symm

end Cert.NatIdeal.Value

end
-- ==== Proof.NatRef.lean ====
/-
  The reference of the neighbourhood attention's projections read at an index.
-/
module

public import proofs.«01_k».proof.Proof.NatProj
public import proofs.«01_k».proof.Proof.Gen.NatReferenceIdeal.Run
public import proofs.«01_k».proof.Proof.Gen.NatReferenceIdeal.Read

@[expose] public section

set_option maxRecDepth 200000

noncomputable section

open Idealize.ShloMosaic Idealize.ShloMosaic.TcCoe Idealize.SL.Sem

namespace Cert.NatReferenceIdeal.Read

open Cert.NatReferenceIdeal Cert.NatReferenceIdeal.Gen Cert.Shared

/-- The reference's result is the named function of its arguments. -/
theorem value (x0 : FVec Ideal S2x4096x2048 .f32) (x1 : FVec Ideal S2x256x2048 .f32) (x2 : FVec Ideal S3x6x2048 .f32)
    (x3 : FVec Ideal S2048 .f32) (x4 x5 x6 : FVec Ideal S2048x2048 .f32) :
    val_main_v71 (F := Ideal) x0 x1 x2 x3 x4 x5 x6 = Cert.NatIdeal.Value.out x0 x1 x2 x3 x4 x5 x6 := by
  funext i
  idx_vars i
  unfold Cert.NatIdeal.Value.out Cert.NatIdeal.Value.proj Cert.NatIdeal.Value.hid normMod modAt rowAt
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_cst_2, val_main_v19, val_main_v20, val_main_v21, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_cst_6, val_main_v42, val_main_v43, val_main_v44, val_main_v45, val_main_v46, val_main_v47, val_main_v48, val_main_v49, val_main_v50, val_main_v51, val_main_v52, val_main_v53, val_main_v54, val_main_cst_7, val_main_v55, val_main_v56, val_main_v57, val_main_v58, val_main_v59, val_main_v60, val_main_v61, val_main_v62, val_main_v63, val_main_v64, val_main_v65, val_main_v66, val_main_v67, val_main_v68, val_main_v69, val_main_v70, val_main_v71]
  by_cases h : i1.val < 8192
  · simp only [dif_pos h, modIdx, mul_assoc]
  · simp only [dif_neg h, modIdx_ctx h, mul_assoc]

end Cert.NatReferenceIdeal.Read

end
-- ==== Proof.GqaTables.lean ====
/-
  The rotary tables the host computes for the grouped-query projections, read at a row and a column.
-/
module

public import proofs.«01_k».proof.Defs
public import proofs.«01_k».proof.Proof.Shared
public import proofs.«01_k».proof.Proof.Gen.GqaIdeal.Value
public import proofs.«01_k».proof.Proof.Gen.GqaReferenceIdeal.Read

@[expose] public section

set_option maxRecDepth 16384

noncomputable section

open Idealize.ShloMosaic Idealize.ShloMosaic.TcCoe Idealize.SL.Sem

namespace Cert.GqaIdeal.Value

open Cert.GqaIdeal Cert.GqaIdeal.Gen Cert.Shared

variable (m : (ℓ : Loc nD τ sig) → Buf (Elt Ideal) ℓ) (c : Dev nD)

/-- The angles of the positions, as the reference computes them. -/
def ang : FVec Ideal S4096x64 .f32 := Cert.GqaReferenceIdeal.Read.val_main_v75 (F := Ideal)

/-- The cosines, each repeated for the two columns of its pair, above the context rows' ones. -/
def cosTable (A : FVec Ideal S4096x64 .f32) : FVec Ideal S4352x128 .f32 :=
  concatenate S4352x128 0 [⟨S4096x128, shapeCast S4096x128 (broadcastInDim S4096x64x2 ![0, 1] bcast_S4096x64_S4096x64x2_0_1 (Host.cos A))
      shapeCasts_S4096x64x2_S4096x128⟩,
    ⟨S256x128, broadcastInDim S256x128 ![] bcast_S_S256x128 (constant S_ .f32 0x3F800000#32)⟩] concatenates_S4096x128_S256x128_S4352x128_d0

/-- The sines, each repeated and signed, above the context rows' zeros. -/
def sinTable (A : FVec Ideal S4096x64 .f32) (L : FVec Ideal S2 .f32) : FVec Ideal S4352x128 .f32 :=
  concatenate S4352x128 0 [⟨S4096x128, mulf (shapeCast S4096x128 (broadcastInDim S4096x64x2 ![0, 1] bcast_S4096x64_S4096x64x2_0_1 (Host.sin A))
      shapeCasts_S4096x64x2_S4096x128)
      (broadcastInDim S4096x128 ![0, 1] bcast_S1x128_S4096x128_0_1 (broadcastInDim S1x128 ![1] bcast_S128_S1x128_1
        (shapeCast S128 (broadcastInDim S64x2 ![0, 1] bcast_S1x2_S64x2_0_1 (shapeCast S1x2 L shapeCasts_S2_S1x2)) shapeCasts_S64x2_S128)))⟩,
    ⟨S256x128, broadcastInDim S256x128 ![] bcast_S_S256x128 (constant S_ .f32 0x00000000#32)⟩] concatenates_S4096x128_S256x128_S4352x128_d0

theorem arr_x : V m c main_v2 = concatenate S8704x2048 0 [⟨S8192x2048, shapeCast S8192x2048 (m ((c : Thread nD τ).loc main_arg0)) shapeCasts_S2x4096x2048_S8192x2048⟩,
    ⟨S512x2048, shapeCast S512x2048 (m ((c : Thread nD τ).loc main_arg1)) shapeCasts_S2x256x2048_S512x2048⟩] concatenates_S8192x2048_S512x2048_S8704x2048_d0 := by
  unfold V
  simp only [hostOps0, hostOps0_1, hostOps0_2, hostOps0_3, hostOps0_4, List.flatten_cons, List.flatten_nil, List.append_nil, List.cons_append, List.nil_append]
  after_results
  rfl

theorem arr_g : V m c main_v47 = shapeCast S1x2048 (m ((c : Thread nD τ).loc main_arg3)) shapeCasts_S2048_S1x2048 := by
  unfold V
  simp only [hostOps0, hostOps0_1, hostOps0_2, hostOps0_3, hostOps0_4, List.flatten_cons, List.flatten_nil, List.append_nil, List.cons_append, List.nil_append]
  after_results
  rfl

theorem arr_qn : V m c main_v48 = shapeCast S1x128 (m ((c : Thread nD τ).loc main_arg7)) shapeCasts_S128_S1x128 := by
  unfold V
  simp only [hostOps0, hostOps0_1, hostOps0_2, hostOps0_3, hostOps0_4, List.flatten_cons, List.flatten_nil, List.append_nil, List.cons_append, List.nil_append]
  after_results
  rfl

theorem arr_kn : V m c main_v49 = shapeCast S1x128 (m ((c : Thread nD τ).loc main_arg8)) shapeCasts_S128_S1x128 := by
  unfold V
  simp only [hostOps0, hostOps0_1, hostOps0_2, hostOps0_3, hostOps0_4, List.flatten_cons, List.flatten_nil, List.append_nil, List.cons_append, List.nil_append]
  after_results
  rfl

theorem arr_w : V m c main_v46 = truncf (F := Ideal) .bf16 (concatenate S2048x3072 1 [⟨S2048x2048, m ((c : Thread nD τ).loc main_arg4)⟩, ⟨S2048x512, m ((c : Thread nD τ).loc main_arg5)⟩, ⟨S2048x512, m ((c : Thread nD τ).loc main_arg6)⟩]
    concatenates_S2048x2048_S2048x512_S2048x512_S2048x3072_d1) bitsLt_bf16_f32 := by
  unfold V
  simp only [hostOps0, hostOps0_1, hostOps0_2, hostOps0_3, hostOps0_4, List.flatten_cons, List.flatten_nil, List.append_nil, List.cons_append, List.nil_append]
  after_results
  rfl

theorem arr_cos : V m c main_v42 = cosTable ang := by
  unfold V
  simp only [hostOps0, hostOps0_1, hostOps0_2, hostOps0_3, hostOps0_4, List.flatten_cons, List.flatten_nil, List.append_nil, List.cons_append, List.nil_append]
  after_results
  rfl

theorem arr_sin : V m c main_v44 = sinTable ang (fun i => FloatOps.ofBits .f32 (lit0 (S2.rowMajor i))) := by
  unfold V
  simp only [hostOps0, hostOps0_1, hostOps0_2, hostOps0_3, hostOps0_4, List.flatten_cons, List.flatten_nil, List.append_nil, List.cons_append, List.nil_append]
  after_results
  rfl

theorem cosTable_at (A : FVec Ideal S4096x64 .f32) (s : Fin 4352) (d : Fin 128) :
    cosTable A (ix2 s d) = if h : s.val < 4096 then Ideal.cos (A (ix2 ⟨s.val, h⟩ ⟨d.val / 2, by omega⟩)) else 1 := by
  pointwise [cosTable]

theorem sinTable_at (A : FVec Ideal S4096x64 .f32) (L : FVec Ideal S2 .f32) (s : Fin 4352) (d : Fin 128) :
    sinTable A L (ix2 s d) = if h : s.val < 4096 then Ideal.sin (A (ix2 ⟨s.val, h⟩ ⟨d.val / 2, by omega⟩)) * L (ix1 ⟨d.val % 2, by omega⟩) else 0 := by
  pointwise [sinTable]

/-- The signs of a pair's two columns. -/
theorem sign_at (k : Fin 2) : (FloatOps.ofBits .f32 (lit0 (S2.rowMajor (ix1 k))) : Ideal .f32) = if k.val = 0 then (-1 : EReal) else 1 := by
  have h : lit0 (S2.rowMajor (ix1 k)) = if k.val = 0 then 0xBF800000#32 else 0x3F800000#32 := by
    revert k; decide +kernel
  rw [h]
  split
  · show Ideal.ofBits .f32 0xBF800000#32 = -1
    simp [Ideal.ofBits, Ideal.ieee]
    rw [← EReal.coe_mul]
    norm_num
  · show Ideal.ofBits .f32 0x3F800000#32 = 1
    simp [Ideal.ofBits, Ideal.ieee]
    rw [← EReal.coe_mul]
    norm_num

/-- The three weights side by side, read at a column. -/
theorem cat_at (A : FVec Ideal S2048x2048 .f32) (B C : FVec Ideal S2048x512 .f32) (j : Fin 2048) (d : Fin 3072) :
    truncf (F := Ideal) .bf16 (concatenate S2048x3072 1 [⟨S2048x2048, A⟩, ⟨S2048x512, B⟩, ⟨S2048x512, C⟩]
      concatenates_S2048x2048_S2048x512_S2048x512_S2048x3072_d1) bitsLt_bf16_f32 (ix2 j d)
      = if h : d.val < 2048 then A (ix2 j ⟨d.val, h⟩) else if h' : d.val - 2048 < 512 then B (ix2 j ⟨d.val - 2048, h'⟩)
        else C (ix2 j ⟨d.val - 2048 - 512, by omega⟩) := by
  pointwise

end Cert.GqaIdeal.Value

end
-- ==== Proof.GqaProj.lean ====
/-
  The value of the grouped-query attention's norm, projections, head norms and rotary embedding.
-/
module

public import proofs.«01_k».proof.Defs
public import proofs.«01_k».proof.Proof.Shared
public import proofs.«01_k».proof.Proof.GqaTables

@[expose] public section

set_option maxRecDepth 16384

noncomputable section

open Idealize.ShloMosaic Idealize.ShloMosaic.TcCoe Idealize.SL.Sem
open Idealize.ShloMosaic.Pipeline (Dat)

namespace Cert.GqaIdeal.Value

open Cert.GqaIdeal Cert.GqaIdeal.Gen Cert.Shared

variable (m : (ℓ : Loc nD τ sig) → Buf (Elt Ideal) ℓ) (c : Dev nD)

/-! ## One head of the block -/

/-- A head's columns `o` to `o + 127`, normalised by their root mean square and weighted. -/
def headNorm (o : ℕ) (hs : S256x3072.Slices ![0, o] S256x128) (Q : FVec Ideal S256x3072 .f32) (G : FVec Ideal S1x128 .f32) :
    FVec Ideal S256x128 .f32 :=
  mulf (mulf (extractStridedSlice S256x128 ![0, o] Q hs)
      (broadcastTo S256x128 (rsqrt (addf (divf (shapeCast S256x1 (multiReduction .add [1] S256
          (mulf (extractStridedSlice S256x128 ![0, o] Q hs) (extractStridedSlice S256x128 ![0, o] Q hs))
          0x00000000#32 reduces_S256x128_S256 (.inl rfl) rfl) shapeCasts_S256_S256x1)
        (broadcast S256x1 (Scalar.ofBits .f32 0x43000000#32))) (broadcast S256x1 (Scalar.ofBits .f32 0x358637BD#32))))
        broadcasts_S256x1_S256x128))
    (broadcastTo S256x128 (shapeCast S1x128 G shapeCasts_S1x128_S1x128) broadcasts_S1x128_S256x128)

/-- A head rotated: its columns times the cosines plus the swapped columns times the signed sines. -/
def rotated (N C S : FVec Ideal S256x128 .f32) (E : IVec S256x128 1) : FVec Ideal S256x128 .f32 :=
  addf (mulf N C) (mulf (select E (dynamicRotate 1 127#32 none N rotates_S256x128_d1)
    (dynamicRotate 1 1#32 none N rotates_S256x128_d1)) S)

/-- A query head as stored: rotated and scaled. -/
def qHead (o : ℕ) (hs : S256x3072.Slices ![0, o] S256x128) (Q : FVec Ideal S256x3072 .f32) (C S : FVec Ideal S256x128 .f32)
    (E : IVec S256x128 1) (G : FVec Ideal S1x128 .f32) : FVec Ideal S256x128 .bf16 :=
  truncf .bf16 (mulf (rotated (headNorm o hs Q G) C S E) (broadcast S256x128 (Scalar.ofBits .f32 0x3E0293EE#32))) bitsLt_bf16_f32

/-- A key head as stored: rotated. -/
def kHead (o : ℕ) (hs : S256x3072.Slices ![0, o] S256x128) (Q : FVec Ideal S256x3072 .f32) (C S : FVec Ideal S256x128 .f32)
    (E : IVec S256x128 1) (G : FVec Ideal S1x128 .f32) : FVec Ideal S256x128 .bf16 :=
  truncf .bf16 (rotated (headNorm o hs Q G) C S E) bitsLt_bf16_f32

/-- A row of 128 normalised by its root mean square and weighted. -/
def rmsRow (P g : Fin 128 → EReal) (d : Fin 128) : EReal :=
  P d * Ideal.rsqrt (Ideal.div (∑ x : Fin 128, P x * P x) (Ideal.ofBits .f32 1124073472#32) + Ideal.ofBits .f32 897988541#32) * g d

theorem headNorm_at (o : ℕ) (ho : o + 128 ≤ 3072) (hs : S256x3072.Slices ![0, o] S256x128) (Q : FVec Ideal S256x3072 .f32)
    (G : FVec Ideal S1x128 .f32) (r : Fin 256) (d : Fin 128) :
    headNorm o hs Q G (ix2 r d) = rmsRow (fun x => Q (ix2 r ⟨o + x.val, by omega⟩)) (fun x => G (ix2 0 x)) d := by
  pointwise [headNorm, rmsRow]

theorem rotated_at (N C S : FVec Ideal S256x128 .f32) (E : IVec S256x128 1) (r : Fin 256) (d : Fin 128) :
    rotated N C S E (ix2 r d) = N (ix2 r d) * C (ix2 r d)
      + Scalar.select (E (ix2 r d)) (N (ix2 r ⟨(d.val + 128 - 127) % 128, by omega⟩)) (N (ix2 r ⟨(d.val + 128 - 1) % 128, by omega⟩)) * S (ix2 r d) := by
  pointwise [rotated]

/-- The remainder by two of a column number, as the body computes it. -/
theorem even_bits : ∀ d : Fin 128, IntOp.cmpi CmpIPredicate.eq
      (Scalar.select
        (IntOp.andi
          (IntOp.xori
            (IntOp.cmpi CmpIPredicate.slt
              (IntOp.remsi ArithUnit.vector (BitVec.ofNat 32 ↑d)
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 ↑d)
              (Scalar.select (Scalar.cmpi CmpIPredicate.eq 2#32 0#32) 1#32 2#32))
            0#32))
        (IntOp.addi
          (IntOp.remsi ArithUnit.vector (BitVec.ofNat 32 ↑d)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 ↑d)
          (Scalar.select (Scalar.cmpi CmpIPredicate.eq 2#32 0#32) 1#32 2#32)))
      0#32 = if d.val % 2 = 0 then 1#1 else 0#1 := by
  decide +kernel

theorem even_at (r : Fin 256) (d : Fin 128) :
    k0_pay6 (iota .tc S256x128 32 [1] iota_S256x128_d1_w32) 2#32 (Scalar.cmpi .eq 2#32 0#32) 1#32 (ix2 r d)
      = if d.val % 2 = 0 then 1#1 else 0#1 := by
  pointwise [k0_pay6]
  exact even_bits d

/-! ## The windows -/

abbrev aXl : FVec Ideal S2x4096x2048 .f32 := m ((c : Thread nD τ).loc main_arg0)
abbrev aXc : FVec Ideal S2x256x2048 .f32 := m ((c : Thread nD τ).loc main_arg1)
abbrev aM : FVec Ideal S3x6x2048 .f32 := m ((c : Thread nD τ).loc main_arg2)
abbrev aG : FVec Ideal S2048 .f32 := m ((c : Thread nD τ).loc main_arg3)
abbrev aWq : FVec Ideal S2048x2048 .f32 := m ((c : Thread nD τ).loc main_arg4)
abbrev aWk : FVec Ideal S2048x512 .f32 := m ((c : Thread nD τ).loc main_arg5)
abbrev aWv : FVec Ideal S2048x512 .f32 := m ((c : Thread nD τ).loc main_arg6)
abbrev aQn : FVec Ideal S128 .f32 := m ((c : Thread nD τ).loc main_arg7)
abbrev aKn : FVec Ideal S128 .f32 := m ((c : Thread nD τ).loc main_arg8)

theorem pt_lt (t : Fin cfg0.N) : t.val < 34 := lt_of_lt_of_eq t.isLt N_0

/-- Row `r` of the point's block of 256 rows. -/
abbrev blkRow (t : Fin cfg0.N) (r : Fin 256) : Fin 8704 :=
  ⟨t.val * 256 + r.val, by have := pt_lt t; omega⟩

/-- The row of the rotary tables the point's row `r` reads. -/
abbrev tabRow (t : Fin cfg0.N) (r : Fin 256) : Fin 4352 :=
  ⟨(if t.val < 32 then t.val % 16 else 16) * 256 + r.val, by split <;> omega⟩

/-- The windows' block indices at every grid point. -/
theorem idx : ∀ t : Fin cfg0.N, win0_0.index t = ![t.val, 0] ∧ win0_1.index t = ![t.val / 16, 0, 0]
    ∧ win0_2.index t = ![0, 0] ∧ win0_3.index t = ![0, 0] ∧ win0_4.index t = ![0, 0] ∧ win0_5.index t = ![0, 0]
    ∧ win0_6.index t = ![if t.val < 32 then t.val % 16 else 16, 0] ∧ win0_7.index t = ![if t.val < 32 then t.val % 16 else 16, 0]
    ∧ win0_8.index t = ![t.val, 0] ∧ win0_9.index t = ![t.val, 0] ∧ win0_10.index t = ![t.val, 0] :=
  (by decide +kernel : ∀ t : Fin grid0.N, _)

/-- The normed and modulated row. -/
def hid (Xl : FVec Ideal S2x4096x2048 .f32) (Xc : FVec Ideal S2x256x2048 .f32) (M : FVec Ideal S3x6x2048 .f32) (G : FVec Ideal S2048 .f32)
    (R : Fin 8704) (d : Fin 2048) : EReal :=
  normMod (rowAt Xl Xc R) (fun x => G (ix1 x)) (modAt M 0 R) (modAt M 1 R) d

/-- One projection of the rows. -/
def proj (H : Fin 8704 → Fin 2048 → EReal) {n : ℕ} (W : Vec Ideal ⟨2, ![2048, n]⟩ .f32) (R : Fin 8704) (d : Fin n) : EReal :=
  ∑ j : Fin 2048, H R j * W (ix2 j d)

/-- A row's rotary embedding: the latent rows' pairs are turned by their position's angle, the context rows' are kept. -/
def turned (N : Fin 128 → EReal) (R : Fin 8704) (d : Fin 128) : EReal :=
  if _h : R.val < 8192 then
    (if d.val % 2 = 0 then N d * Ideal.cos (ang (ix2 ⟨R.val % 4096, by omega⟩ ⟨d.val / 2, by omega⟩))
        - N ⟨(d.val + 1) % 128, by omega⟩ * Ideal.sin (ang (ix2 ⟨R.val % 4096, by omega⟩ ⟨d.val / 2, by omega⟩))
      else N ⟨(d.val + 127) % 128, by omega⟩ * Ideal.sin (ang (ix2 ⟨R.val % 4096, by omega⟩ ⟨d.val / 2, by omega⟩))
        + N d * Ideal.cos (ang (ix2 ⟨R.val % 4096, by omega⟩ ⟨d.val / 2, by omega⟩)))
  else N d

theorem rowsX (R : Fin 8704) (d : Fin 2048) : V m c main_v2 (ix2 R d) = rowAt (aXl m c) (aXc m c) R d := by
  rw [arr_x]
  exact concat_rows _ _ _ _ _ R d

theorem blkX (t : Fin cfg0.N) (r : Fin 256) (d : Fin 2048) : iblk m c 0 t (ix2 r d) = rowAt (aXl m c) (aXc m c) (blkRow t r) d := by
  have hN := pt_lt t
  rw [← rowsX]
  blk_ext [iblk, idx t]

theorem blkM (t : Fin cfg0.N) (r : Fin 256) (k : Fin 6) (d : Fin 2048) : iblk m c 1 t (ix3 0 k d) = modAt (aM m c) k (blkRow t r) d := by
  have hN := pt_lt t
  refine Eq.trans (b := V m c main_arg2 (ix3 (modIdx (blkRow t r)) k d)) (by unfold modIdx; blk_ext [iblk, idx t]) ?_
  rw [V_main_arg2]
  rfl

theorem gain_at (A : FVec Ideal S2048 .f32) (d : Fin 2048) : shapeCast S1x2048 A shapeCasts_S2048_S1x2048 (ix2 0 d) = A (ix1 d) := by
  pointwise

theorem blkG' (t : Fin cfg0.N) (d : Fin 2048) : iblk m c 2 t (ix2 0 d) = V m c main_v47 (ix2 0 d) := by
  have hN := pt_lt t
  blk_ext [iblk, idx t]

theorem blkG (t : Fin cfg0.N) (d : Fin 2048) : iblk m c 2 t (ix2 0 d) = aG m c (ix1 d) := by
  rw [blkG', arr_g]
  exact gain_at _ d

theorem blkQn (t : Fin cfg0.N) (d : Fin 128) : iblk m c 4 t (ix2 0 d) = aQn m c (ix1 d) := by
  have hN := pt_lt t
  refine Eq.trans (b := V m c main_v48 (ix2 0 d)) (by blk_ext [iblk, idx t]) ?_
  rw [arr_qn]
  pointwise

theorem blkKn (t : Fin cfg0.N) (d : Fin 128) : iblk m c 5 t (ix2 0 d) = aKn m c (ix1 d) := by
  have hN := pt_lt t
  refine Eq.trans (b := V m c main_v49 (ix2 0 d)) (by blk_ext [iblk, idx t]) ?_
  rw [arr_kn]
  pointwise

theorem blkW (t : Fin cfg0.N) (j : Fin 2048) (d : Fin 3072) : iblk m c 3 t (ix2 j d)
    = if h : d.val < 2048 then aWq m c (ix2 j ⟨d.val, h⟩) else if h' : d.val - 2048 < 512 then aWk m c (ix2 j ⟨d.val - 2048, h'⟩)
        else aWv m c (ix2 j ⟨d.val - 2048 - 512, by omega⟩) := by
  have hN := pt_lt t
  refine Eq.trans (b := V m c main_v46 (ix2 j d)) (by blk_ext [iblk, idx t]) ?_
  rw [arr_w]
  exact cat_at _ _ _ j d

theorem blkCos (t : Fin cfg0.N) (r : Fin 256) (d : Fin 128) : iblk m c 6 t (ix2 r d) = cosTable ang (ix2 (tabRow t r) d) := by
  have hN := pt_lt t
  rw [← arr_cos m c]
  blk_ext [iblk, idx t]

theorem blkSin (t : Fin cfg0.N) (r : Fin 256) (d : Fin 128) :
    iblk m c 7 t (ix2 r d) = sinTable ang (fun i => FloatOps.ofBits .f32 (lit0 (S2.rowMajor i))) (ix2 (tabRow t r) d) := by
  have hN := pt_lt t
  rw [← arr_sin m c]
  blk_ext [iblk, idx t]

/-! ## The pieces of a block -/

/-- The columns' numbers. -/
abbrev pos : IVec S256x128 32 := iota .tc S256x128 32 [1] iota_S256x128_d1_w32

/-- Which columns are even, as the body computes it. -/
abbrev ev : IVec S256x128 1 := k0_pay6 pos 2#32 (Scalar.cmpi .eq 2#32 0#32) 1#32

/-- A head's row rotated by a row of the tables. -/
def turnAt (N C S : Fin 128 → EReal) (d : Fin 128) : EReal :=
  N d * C d + (if d.val % 2 = 0 then N ⟨(d.val + 1) % 128, by omega⟩ else N ⟨(d.val + 127) % 128, by omega⟩) * S d

theorem rotated_ev (N C S : FVec Ideal S256x128 .f32) (r : Fin 256) (d : Fin 128) :
    rotated N C S ev (ix2 r d) = turnAt (fun d => N (ix2 r d)) (fun d => C (ix2 r d)) (fun d => S (ix2 r d)) d := by
  rw [rotated_at, show ev (ix2 r d) = if d.val % 2 = 0 then 1#1 else 0#1 from even_at r d]
  have e1 : (⟨(d.val + 128 - 127) % 128, by omega⟩ : Fin 128) = ⟨(d.val + 1) % 128, by omega⟩ := Fin.ext (by show (d.val + 128 - 127) % 128 = (d.val + 1) % 128; omega)
  have e2 : (⟨(d.val + 128 - 1) % 128, by omega⟩ : Fin 128) = ⟨(d.val + 127) % 128, by omega⟩ := Fin.ext (by show (d.val + 128 - 1) % 128 = (d.val + 127) % 128; omega)
  rw [e1, e2]
  unfold turnAt
  by_cases h : d.val % 2 = 0
  · rw [if_pos h, if_pos h]; rfl
  · rw [if_neg h, if_neg h]; rfl

/-- A row of one head of the block: columns `o` to `o + 127`, normalised, weighted and rotated. -/
def headRow (Q : FVec Ideal S256x3072 .f32) (C S : FVec Ideal S256x128 .f32) (G : FVec Ideal S1x128 .f32) (o : ℕ) (ho : o + 128 ≤ 3072)
    (r : Fin 256) (d : Fin 128) : EReal :=
  turnAt (rmsRow (fun x => Q (ix2 r ⟨o + x.val, by omega⟩)) (fun x => G (ix2 0 x))) (fun d => C (ix2 r d)) (fun d => S (ix2 r d)) d

theorem head_at (o : ℕ) (ho : o + 128 ≤ 3072) (hs : S256x3072.Slices ![0, o] S256x128) (Q : FVec Ideal S256x3072 .f32)
    (C S : FVec Ideal S256x128 .f32) (G : FVec Ideal S1x128 .f32) (r : Fin 256) (d : Fin 128) :
    rotated (headNorm o hs Q G) C S ev (ix2 r d) = headRow Q C S G o ho r d := by
  rw [rotated_ev]
  unfold headRow
  congr 1
  funext x
  exact headNorm_at o ho hs Q G r x

theorem headRow_congr (Q : FVec Ideal S256x3072 .f32) (C S : FVec Ideal S256x128 .f32) (G : FVec Ideal S1x128 .f32) (o o' : ℕ)
    (ho : o + 128 ≤ 3072) (ho' : o' + 128 ≤ 3072) (r r' : Fin 256) (d d' : Fin 128) (h : o = o') (hr : r = r') (hd : d = d') :
    headRow Q C S G o ho r d = headRow Q C S G o' ho' r' d' := by
  subst h hr hd
  rfl

/-- The queries' block. -/
def qOf (Q : FVec Ideal S256x3072 .f32) (C S : FVec Ideal S256x128 .f32) (G : FVec Ideal S1x128 .f32) : Vec Ideal S256x2048 .bf16 := fun y =>
  headRow Q C S G ((y 1).val / 128 * 128) (by have h : (y 1).val < 2048 := (y 1).isLt; omega) (y 0) ⟨(y 1).val % 128, by omega⟩
    * Ideal.ofBits .f32 0x3E0293EE#32

/-- The keys' block. -/
def kOf (Q : FVec Ideal S256x3072 .f32) (C S : FVec Ideal S256x128 .f32) (G : FVec Ideal S1x128 .f32) : Vec Ideal S256x512 .bf16 := fun y =>
  headRow Q C S G (2048 + (y 1).val / 128 * 128) (by have h : (y 1).val < 512 := (y 1).isLt; omega) (y 0) ⟨(y 1).val % 128, by omega⟩

theorem qpiece (o : ℕ) (ho : o + 128 ≤ 2048) (hk : o % 128 = 0) (hs : S256x3072.Slices ![0, o] S256x128) (Q : FVec Ideal S256x3072 .f32)
    (C S : FVec Ideal S256x128 .f32) (G : FVec Ideal S1x128 .f32) (x : S256x128.Idx) (z : S256x2048.Idx)
    (h0 : (z 0).val = (x 0).val) (h1 : (z 1).val = o + (x 1).val) : qHead o hs Q C S ev G x = qOf Q C S G z := by
  have hx : x = ix2 (x 0) (x 1) := funext fun a => by fin_cases a <;> rfl
  have hl : (x 1).val < 128 := (x 1).isLt
  rw [hx]
  refine congrArg (fun w : EReal => w * Ideal.ofBits .f32 0x3E0293EE#32) ((head_at o (by omega) hs Q C S G (x 0) (x 1)).trans ?_)
  exact headRow_congr Q C S G _ _ _ _ _ _ _ _ (by omega) (Fin.ext h0.symm) (Fin.ext (by show (x 1).val = (z 1).val % 128; omega))

theorem kpiece (o : ℕ) (ho : o + 128 ≤ 2560) (hk : 2048 ≤ o ∧ o % 128 = 0) (hs : S256x3072.Slices ![0, o] S256x128) (Q : FVec Ideal S256x3072 .f32)
    (C S : FVec Ideal S256x128 .f32) (G : FVec Ideal S1x128 .f32) (x : S256x128.Idx) (z : S256x512.Idx)
    (h0 : (z 0).val = (x 0).val) (h1 : (z 1).val = o - 2048 + (x 1).val) : kHead o hs Q C S ev G x = kOf Q C S G z := by
  have hx : x = ix2 (x 0) (x 1) := funext fun a => by fin_cases a <;> rfl
  have hl : (x 1).val < 128 := (x 1).isLt
  rw [hx]
  refine (head_at o (by omega) hs Q C S G (x 0) (x 1)).trans ?_
  exact headRow_congr Q C S G _ _ _ _ _ _ _ _ (by omega) (Fin.ext h0.symm) (Fin.ext (by show (x 1).val = (z 1).val % 128; omega))

/-- The sixteen stores of the queries' window leave the queries' block. -/
theorem pieces8 (Q : FVec Ideal S256x3072 .f32) (C S : FVec Ideal S256x128 .f32) (G : FVec Ideal S1x128 .f32) (y : S256x2048.Idx) :
    View.canon (Val := Elt Ideal) [⟨r0_22, k0_pay43 Q C S ev G⟩,
    ⟨r0_21, k0_pay42 C S ev (k0_pay39 Q) (k0_pay40 G) (k0_pay41 Q)⟩,
    ⟨r0_20, k0_pay38 Q C S ev G⟩,
    ⟨r0_19, k0_pay37 (k0_pay35 Q C G) (k0_pay36 Q S ev G)⟩,
    ⟨r0_18, k0_pay33 C S ev (k0_pay32 Q) G⟩,
    ⟨r0_17, k0_pay31 Q C S ev G⟩,
    ⟨r0_16, k0_pay30 C S ev (k0_pay27 Q) (k0_pay28 G) (k0_pay29 Q)⟩,
    ⟨r0_15, k0_pay26 Q C S ev G⟩,
    ⟨r0_14, k0_pay25 (k0_pay23 Q C G) (k0_pay24 Q S ev G)⟩,
    ⟨r0_13, k0_pay21 C S ev (k0_pay20 Q) G⟩,
    ⟨r0_12, k0_pay19 Q C S ev G⟩,
    ⟨r0_11, k0_pay18 C S ev (k0_pay15 Q) (k0_pay16 G) (k0_pay17 Q)⟩,
    ⟨r0_10, k0_pay14 Q C S ev G⟩,
    ⟨r0_9, k0_pay13 (k0_pay11 Q C G) (k0_pay12 Q S ev G)⟩,
    ⟨r0_8, k0_pay9 C S ev (k0_pay8 Q) G⟩,
    ⟨r0_7, k0_pay7 Q C S pos 2#32 (Scalar.cmpi .eq 2#32 0#32) 1#32 G⟩] y = qOf Q C S G y := by
  refine View.canon_apply_of_pieces (qOf Q C S G) _ ?_ y (cover0_8 _ _ _ _ _ _ _ _ _ _ _ _ _ _ _ _ y)
  refine List.forall_mem_cons.2 ⟨fun x => qpiece 1920 (by omega) (by omega) slices_S256x3072_o0_1920_S256x128 Q C S G x _ (by show 0 + 1 * (x 0).val = _; omega) (by show 1920 + 1 * (x 1).val = _; omega), ?_⟩
  refine List.forall_mem_cons.2 ⟨fun x => qpiece 1792 (by omega) (by omega) slices_S256x3072_o0_1792_S256x128 Q C S G x _ (by show 0 + 1 * (x 0).val = _; omega) (by show 1792 + 1 * (x 1).val = _; omega), ?_⟩
  refine List.forall_mem_cons.2 ⟨fun x => qpiece 1664 (by omega) (by omega) slices_S256x3072_o0_1664_S256x128 Q C S G x _ (by show 0 + 1 * (x 0).val = _; omega) (by show 1664 + 1 * (x 1).val = _; omega), ?_⟩
  refine List.forall_mem_cons.2 ⟨fun x => qpiece 1536 (by omega) (by omega) slices_S256x3072_o0_1536_S256x128 Q C S G x _ (by show 0 + 1 * (x 0).val = _; omega) (by show 1536 + 1 * (x 1).val = _; omega), ?_⟩
  refine List.forall_mem_cons.2 ⟨fun x => qpiece 1408 (by omega) (by omega) slices_S256x3072_o0_1408_S256x128 Q C S G x _ (by show 0 + 1 * (x 0).val = _; omega) (by show 1408 + 1 * (x 1).val = _; omega), ?_⟩
  refine List.forall_mem_cons.2 ⟨fun x => qpiece 1280 (by omega) (by omega) slices_S256x3072_o0_1280_S256x128 Q C S G x _ (by show 0 + 1 * (x 0).val = _; omega) (by show 1280 + 1 * (x 1).val = _; omega), ?_⟩
  refine List.forall_mem_cons.2 ⟨fun x => qpiece 1152 (by omega) (by omega) slices_S256x3072_o0_1152_S256x128 Q C S G x _ (by show 0 + 1 * (x 0).val = _; omega) (by show 1152 + 1 * (x 1).val = _; omega), ?_⟩
  refine List.forall_mem_cons.2 ⟨fun x => qpiece 1024 (by omega) (by omega) slices_S256x3072_o0_1024_S256x128 Q C S G x _ (by show 0 + 1 * (x 0).val = _; omega) (by show 1024 + 1 * (x 1).val = _; omega), ?_⟩
  refine List.forall_mem_cons.2 ⟨fun x => qpiece 896 (by omega) (by omega) slices_S256x3072_o0_896_S256x128 Q C S G x _ (by show 0 + 1 * (x 0).val = _; omega) (by show 896 + 1 * (x 1).val = _; omega), ?_⟩
  refine List.forall_mem_cons.2 ⟨fun x => qpiece 768 (by omega) (by omega) slices_S256x3072_o0_768_S256x128 Q C S G x _ (by show 0 + 1 * (x 0).val = _; omega) (by show 768 + 1 * (x 1).val = _; omega), ?_⟩
  refine List.forall_mem_cons.2 ⟨fun x => qpiece 640 (by omega) (by omega) slices_S256x3072_o0_640_S256x128 Q C S G x _ (by show 0 + 1 * (x 0).val = _; omega) (by show 640 + 1 * (x 1).val = _; omega), ?_⟩
  refine List.forall_mem_cons.2 ⟨fun x => qpiece 512 (by omega) (by omega) slices_S256x3072_o0_512_S256x128 Q C S G x _ (by show 0 + 1 * (x 0).val = _; omega) (by show 512 + 1 * (x 1).val = _; omega), ?_⟩
  refine List.forall_mem_cons.2 ⟨fun x => qpiece 384 (by omega) (by omega) slices_S256x3072_o0_384_S256x128 Q C S G x _ (by show 0 + 1 * (x 0).val = _; omega) (by show 384 + 1 * (x 1).val = _; omega), ?_⟩
  refine List.forall_mem_cons.2 ⟨fun x => qpiece 256 (by omega) (by omega) slices_S256x3072_o0_256_S256x128 Q C S G x _ (by show 0 + 1 * (x 0).val = _; omega) (by show 256 + 1 * (x 1).val = _; omega), ?_⟩
  refine List.forall_mem_cons.2 ⟨fun x => qpiece 128 (by omega) (by omega) slices_S256x3072_o0_128_S256x128 Q C S G x _ (by show 0 + 1 * (x 0).val = _; omega) (by show 128 + 1 * (x 1).val = _; omega), ?_⟩
  refine List.forall_mem_cons.2 ⟨fun x => qpiece 0 (by omega) (by omega) slices_S256x3072_o0_0_S256x128 Q C S G x _ (by show 0 + 1 * (x 0).val = _; omega) (by show 0 + 1 * (x 1).val = _; omega), ?_⟩
  exact fun pc hpc => nomatch hpc

/-- The four stores of the keys' window leave the keys' block. -/
theorem pieces9 (Q : FVec Ideal S256x3072 .f32) (C S : FVec Ideal S256x128 .f32) (G : FVec Ideal S1x128 .f32) (y : S256x512.Idx) :
    View.canon (Val := Elt Ideal) [⟨r0_26, k0_pay1 C S ev (k0_pay48 Q G) (k0_pay49 Q G) (k0_pay50 Q G)⟩,
    ⟨r0_25, k0_pay47 Q C S ev G⟩,
    ⟨r0_24, k0_pay46 Q C S ev G⟩,
    ⟨r0_23, k0_pay45 C S ev (k0_pay44 Q) G⟩] y = kOf Q C S G y := by
  refine View.canon_apply_of_pieces (kOf Q C S G) _ ?_ y (cover0_9 _ _ _ _ y)
  refine List.forall_mem_cons.2 ⟨fun x => kpiece 2432 (by omega) (by omega) slices_S256x3072_o0_2432_S256x128 Q C S G x _ (by show 0 + 1 * (x 0).val = _; omega) (by show 384 + 1 * (x 1).val = _; omega), ?_⟩
  refine List.forall_mem_cons.2 ⟨fun x => kpiece 2304 (by omega) (by omega) slices_S256x3072_o0_2304_S256x128 Q C S G x _ (by show 0 + 1 * (x 0).val = _; omega) (by show 256 + 1 * (x 1).val = _; omega), ?_⟩
  refine List.forall_mem_cons.2 ⟨fun x => kpiece 2176 (by omega) (by omega) slices_S256x3072_o0_2176_S256x128 Q C S G x _ (by show 0 + 1 * (x 0).val = _; omega) (by show 128 + 1 * (x 1).val = _; omega), ?_⟩
  refine List.forall_mem_cons.2 ⟨fun x => kpiece 2048 (by omega) (by omega) slices_S256x3072_o0_2048_S256x128 Q C S G x _ (by show 0 + 1 * (x 0).val = _; omega) (by show 0 + 1 * (x 1).val = _; omega), ?_⟩
  exact fun pc hpc => nomatch hpc

theorem pay2_at (Q : FVec Ideal S256x3072 .f32) (r : Fin 256) (d : Fin 512) : k0_pay2 Q (ix2 r d) = Q (ix2 r ⟨2560 + d.val, by omega⟩) := by
  pointwise [k0_pay2]

/-- The values' block. -/
def vOf (Q : FVec Ideal S256x3072 .f32) : Vec Ideal S256x512 .bf16 := fun y =>
  Q (ix2 (y 0) ⟨2560 + (y 1).val, by have h : (y 1).val < 512 := (y 1).isLt; omega⟩)

theorem pieces10 (Q : FVec Ideal S256x3072 .f32) (y : S256x512.Idx) :
    View.canon (Val := Elt Ideal) [⟨r0_27, k0_pay2 Q⟩] y = vOf Q y := by
  refine View.canon_apply_of_pieces (vOf Q) _ ?_ y (cover0_10 _ y)
  refine List.forall_mem_cons.2 ⟨fun x => ?_, fun pc hpc => nomatch hpc⟩
  have hx : x = ix2 (x 0) (x 1) := funext fun a => by fin_cases a <;> rfl
  refine (congrArg (k0_pay2 Q) hx).trans ((pay2_at Q (x 0) (x 1)).trans ?_)
  exact congrArg₂ (fun a b => Q (ix2 a b)) (Fin.ext (by show (x 0).val = 0 + 1 * (x 0).val; omega))
    (Fin.ext (by show 2560 + (x 1).val = 2560 + (0 + 1 * (x 1).val); omega))

/-! ## The block's projections -/

theorem pay3_at (X : FVec Ideal S256x2048 .f32) (G : FVec Ideal S1x2048 .f32) (A B : FVec Ideal S1x1x2048 .f32) (W : FVec Ideal S2048x3072 .bf16)
    (r : Fin 256) (d : Fin 3072) :
    k0_pay3 (F := Ideal) X G A B W (ix2 r d)
      = ∑ j : Fin 2048, normMod (fun x => X (ix2 r x)) (fun x => G (ix2 0 x)) (fun x => A (ix3 0 0 x)) (fun x => B (ix3 0 0 x)) j * W (ix2 j d) := by
  pointwise [k0_pay3, normMod]

theorem whole_x (B : Vec Ideal S256x2048 .f32) : View.ld (Val := Elt Ideal) B r0_0 = B :=
  View.ld_unit_zero (by funext a; fin_cases a <;> rfl) _ _

theorem whole_g (B : Vec Ideal S1x2048 .f32) : View.ld (Val := Elt Ideal) B r0_1 = B :=
  View.ld_unit_zero (by funext a; fin_cases a <;> rfl) _ _

theorem whole_w (B : Vec Ideal S2048x3072 .bf16) : View.ld (Val := Elt Ideal) B r0_4 = B :=
  View.ld_unit_zero (by funext a; fin_cases a <;> rfl) _ _

theorem whole_t (B : Vec Ideal S256x128 .f32) : View.ld (Val := Elt Ideal) B r0_5 = B :=
  View.ld_unit_zero (by funext a; fin_cases a <;> rfl) _ _

theorem whole_n (B : Vec Ideal S1x128 .f32) : View.ld (Val := Elt Ideal) B r0_6 = B :=
  View.ld_unit_zero (by funext a; fin_cases a <;> rfl) _ _

theorem ldb (B : Vec Ideal S1x6x2048 .f32) (d : Fin 2048) : View.ld (Val := Elt Ideal) B r0_2 (ix3 0 0 d) = B (ix3 0 0 d) := by
  pointwise

theorem lds (B : Vec Ideal S1x6x2048 .f32) (d : Fin 2048) : View.ld (Val := Elt Ideal) B r0_3 (ix3 0 0 d) = B (ix3 0 1 d) := by
  pointwise

theorem cast_t (B : FVec Ideal S256x128 .f32) (r : Fin 256) (d : Fin 128) : shapeCast S256x128 B shapeCasts_S256x128_S256x128 (ix2 r d) = B (ix2 r d) := by
  pointwise

/-- The block's projections. -/
abbrev qkv (t : Fin cfg0.N) : FVec Ideal S256x3072 .f32 :=
  k0_pay3 (F := Ideal) (View.ld (iblk m c 0 t) r0_0) (View.ld (iblk m c 2 t) r0_1) (View.ld (iblk m c 1 t) r0_2) (View.ld (iblk m c 1 t) r0_3)
    (View.ld (iblk m c 3 t) r0_4)

theorem qkv_of (x0 : FVec Ideal S256x2048 .f32) (x1 : FVec Ideal S1x6x2048 .f32) (x2 : FVec Ideal S1x2048 .f32) (x3 : FVec Ideal S2048x3072 .bf16)
    (r : Fin 256) (d : Fin 3072) (X g b s : Fin 2048 → EReal) (hX : ∀ x, x0 (ix2 r x) = X x) (hg : ∀ x, x2 (ix2 0 x) = g x)
    (hb : ∀ x, x1 (ix3 0 0 x) = b x) (hs : ∀ x, x1 (ix3 0 1 x) = s x) :
    k0_pay3 (F := Ideal) (View.ld (Val := Elt Ideal) x0 r0_0) (View.ld (Val := Elt Ideal) x2 r0_1) (View.ld (Val := Elt Ideal) x1 r0_2)
      (View.ld (Val := Elt Ideal) x1 r0_3) (View.ld (Val := Elt Ideal) x3 r0_4) (ix2 r d)
      = ∑ j : Fin 2048, normMod X g b s j * x3 (ix2 j d) := by
  rw [whole_x, whole_g, whole_w, pay3_at]
  refine Finset.sum_congr rfl fun j _ => congrArg (fun z : EReal => z * _) ?_
  congr 1
  · exact funext hX
  · exact funext hg
  · exact funext fun x => (ldb x1 x).trans (hb x)
  · exact funext fun x => (lds x1 x).trans (hs x)

theorem sum_right (H W W' : Fin 2048 → EReal) (h : ∀ j, W j = W' j) : ∑ j, H j * W j = ∑ j, H j * W' j :=
  Finset.sum_congr rfl fun j _ => by rw [h]

theorem qkv_at (t : Fin cfg0.N) (r : Fin 256) (d : Fin 3072) (W : Fin 2048 → EReal)
    (hW : ∀ j, (iblk m c 3 t : FVec Ideal S2048x3072 .bf16) (ix2 j d) = W j) :
    qkv m c t (ix2 r d) = ∑ j : Fin 2048, hid (aXl m c) (aXc m c) (aM m c) (aG m c) (blkRow t r) j * W j :=
  (qkv_of (iblk m c 0 t) (iblk m c 1 t) (iblk m c 2 t) (iblk m c 3 t) r d _ _ _ _ (blkX m c t r) (blkG m c t) (blkM m c t r 0)
    (blkM m c t r 1)).trans (sum_right _ _ _ hW)

theorem qkv_q (t : Fin cfg0.N) (r : Fin 256) (d : Fin 3072) (D : Fin 2048) (h : d.val = D.val) :
    qkv m c t (ix2 r d) = proj (hid (aXl m c) (aXc m c) (aM m c) (aG m c)) (aWq m c) (blkRow t r) D :=
  qkv_at m c t r d _ fun j => (blkW m c t j d).trans ((dif_pos (by omega)).trans
    (congrArg (fun k => aWq m c (ix2 j k)) (Fin.ext h)))

theorem qkv_k (t : Fin cfg0.N) (r : Fin 256) (d : Fin 3072) (D : Fin 512) (h : d.val = 2048 + D.val) :
    qkv m c t (ix2 r d) = proj (hid (aXl m c) (aXc m c) (aM m c) (aG m c)) (aWk m c) (blkRow t r) D :=
  qkv_at m c t r d _ fun j => (blkW m c t j d).trans ((dif_neg (by omega)).trans ((dif_pos (by omega)).trans
    (congrArg (fun k => aWk m c (ix2 j k)) (Fin.ext (by show d.val - 2048 = D.val; omega)))))

theorem qkv_v (t : Fin cfg0.N) (r : Fin 256) (d : Fin 3072) (D : Fin 512) (h : d.val = 2560 + D.val) :
    qkv m c t (ix2 r d) = proj (hid (aXl m c) (aXc m c) (aM m c) (aG m c)) (aWv m c) (blkRow t r) D :=
  qkv_at m c t r d _ fun j => (blkW m c t j d).trans ((dif_neg (by omega)).trans ((dif_neg (by omega)).trans
    (congrArg (fun k => aWv m c (ix2 j k)) (Fin.ext (by show d.val - 2048 - 512 = D.val; omega)))))

/-- The tables' row of a block row turns a head's row by its position's angle. -/
theorem turn_eq (N : Fin 128 → EReal) (t : Fin cfg0.N) (r : Fin 256) (d : Fin 128) :
    turnAt N (fun d => cosTable ang (ix2 (tabRow t r) d))
      (fun d => sinTable ang (fun i => FloatOps.ofBits .f32 (lit0 (S2.rowMajor i))) (ix2 (tabRow t r) d)) d = turned N (blkRow t r) d := by
  have hN := pt_lt t
  unfold turnAt turned
  simp only [cosTable_at, sinTable_at, sign_at]
  by_cases h : t.val < 32
  · have h1 : (tabRow t r).val < 4096 := by show (if t.val < 32 then t.val % 16 else 16) * 256 + r.val < 4096; rw [if_pos h]; omega
    have h2 : (blkRow t r).val < 8192 := by show t.val * 256 + r.val < 8192; omega
    have e : (⟨(tabRow t r).val, h1⟩ : Fin 4096) = ⟨(blkRow t r).val % 4096, by omega⟩ := Fin.ext (by
      show (if t.val < 32 then t.val % 16 else 16) * 256 + r.val = (t.val * 256 + r.val) % 4096; rw [if_pos h]; omega)
    rw [dif_pos h1, dif_pos h1, dif_pos h2, e]
    by_cases hd : d.val % 2 = 0
    · simp only [if_pos hd, mul_neg, mul_one, sub_eq_add_neg]
    · simp only [if_neg hd, mul_one, add_comm]
  · have h1 : ¬(tabRow t r).val < 4096 := by show ¬(if t.val < 32 then t.val % 16 else 16) * 256 + r.val < 4096; rw [if_neg h]; omega
    have h2 : ¬(blkRow t r).val < 8192 := by show ¬t.val * 256 + r.val < 8192; omega
    rw [dif_neg h1, dif_neg h1, dif_neg h2, mul_one, mul_zero, add_zero]

theorem cosRow (t : Fin cfg0.N) (r : Fin 256) (d : Fin 128) :
    k0_pay4 (View.ld (iblk m c 6 t) r0_5) (ix2 r d) = cosTable ang (ix2 (tabRow t r) d) := by
  rw [whole_t]
  exact (cast_t _ r d).trans (blkCos m c t r d)

theorem sinRow (t : Fin cfg0.N) (r : Fin 256) (d : Fin 128) :
    k0_pay5 (View.ld (iblk m c 7 t) r0_5) (ix2 r d) = sinTable ang (fun i => FloatOps.ofBits .f32 (lit0 (S2.rowMajor i))) (ix2 (tabRow t r) d) := by
  rw [whole_t]
  exact (cast_t _ r d).trans (blkSin m c t r d)

theorem headRow_eq (t : Fin cfg0.N) (G : FVec Ideal S1x128 .f32) (o : ℕ) (ho : o + 128 ≤ 3072) (r : Fin 256) (d : Fin 128)
    (P g : Fin 128 → EReal) (hP : ∀ x : Fin 128, qkv m c t (ix2 r ⟨o + x.val, by omega⟩) = P x) (hg : ∀ x, G (ix2 0 x) = g x) :
    headRow (qkv m c t) (k0_pay4 (View.ld (iblk m c 6 t) r0_5)) (k0_pay5 (View.ld (iblk m c 7 t) r0_5)) G o ho r d
      = turned (rmsRow P g) (blkRow t r) d := by
  unfold headRow
  rw [show (fun x : Fin 128 => qkv m c t (ix2 r ⟨o + x.val, by omega⟩)) = P from funext hP, show (fun x => G (ix2 0 x)) = g from funext hg]
  simp only [cosRow, sinRow]
  exact turn_eq _ t r d

/-! ## The results -/

/-- A head of a projection, normalised, weighted and rotated. -/
def head {n : ℕ} (Xl : FVec Ideal S2x4096x2048 .f32) (Xc : FVec Ideal S2x256x2048 .f32) (M : FVec Ideal S3x6x2048 .f32) (G : FVec Ideal S2048 .f32)
    (W : Vec Ideal ⟨2, ![2048, n * 128]⟩ .f32) (g : FVec Ideal S128 .f32) (R : Fin 8704) (h : Fin n) (d : Fin 128) : EReal :=
  turned (rmsRow (fun x => proj (hid Xl Xc M G) W R ⟨h.val * 128 + x.val, by have := h.isLt; omega⟩) (fun x => g (ix1 x))) R d

/-- The queries. -/
def outQ (Xl : FVec Ideal S2x4096x2048 .f32) (Xc : FVec Ideal S2x256x2048 .f32) (M : FVec Ideal S3x6x2048 .f32) (G : FVec Ideal S2048 .f32)
    (Wq : FVec Ideal S2048x2048 .f32) (qn : FVec Ideal S128 .f32) : S8704x2048.Idx → EReal := fun i =>
  head (n := 16) Xl Xc M G Wq qn (i 0) ⟨(i 1).val / 128, by have h : (i 1).val < 2048 := (i 1).isLt; omega⟩ ⟨(i 1).val % 128, by omega⟩
    * Ideal.ofBits .f32 0x3E0293EE#32

/-- The keys. -/
def outK (Xl : FVec Ideal S2x4096x2048 .f32) (Xc : FVec Ideal S2x256x2048 .f32) (M : FVec Ideal S3x6x2048 .f32) (G : FVec Ideal S2048 .f32)
    (Wk : FVec Ideal S2048x512 .f32) (kn : FVec Ideal S128 .f32) : S8704x512.Idx → EReal := fun i =>
  head (n := 4) Xl Xc M G Wk kn (i 0) ⟨(i 1).val / 128, by have h : (i 1).val < 512 := (i 1).isLt; omega⟩ ⟨(i 1).val % 128, by omega⟩

/-- The values. -/
def outV (Xl : FVec Ideal S2x4096x2048 .f32) (Xc : FVec Ideal S2x256x2048 .f32) (M : FVec Ideal S3x6x2048 .f32) (G : FVec Ideal S2048 .f32)
    (Wv : FVec Ideal S2048x512 .f32) : S8704x512.Idx → EReal := fun i => proj (hid Xl Xc M G) Wv (i 0) (i 1)

theorem final8 : (dats m 0 c).arrAt 8 cfg0.N = outQ (aXl m c) (aXc m c) (aM m c) (aG m c) (aWq m c) (aQn m c) := by
  refine (dats m 0 c).arrAt_eq_of_covers 8 _ (by decide +kernel) fun t hflush y => ?_
  have hN := pt_lt t
  blk_simp
  rw [after0_8]
  idx_vars y
  rw [show ((cfg0.win 8).blk t).view.emb (ix2 y0 y1) = ix2 (blkRow t y0) y1 by blk_ext [idx t]]
  refine (pieces8 (qkv m c t) (k0_pay4 (View.ld (iblk m c 6 t) r0_5)) (k0_pay5 (View.ld (iblk m c 7 t) r0_5)) (View.ld (iblk m c 4 t) r0_6)
    (ix2 y0 y1)).trans (congrArg (fun z : EReal => z * Ideal.ofBits .f32 0x3E0293EE#32) ?_)
  refine headRow_eq m c t _ _ _ y0 _ _ _ (fun x => ?_) fun x => ?_
  · exact qkv_q m c t y0 _ _ rfl
  · rw [whole_n]; exact blkQn m c t x

theorem final9 : (dats m 0 c).arrAt 9 cfg0.N = outK (aXl m c) (aXc m c) (aM m c) (aG m c) (aWk m c) (aKn m c) := by
  refine (dats m 0 c).arrAt_eq_of_covers 9 _ (by decide +kernel) fun t hflush y => ?_
  have hN := pt_lt t
  blk_simp
  rw [after0_9]
  idx_vars y
  rw [show ((cfg0.win 9).blk t).view.emb (ix2 y0 y1) = ix2 (blkRow t y0) y1 by blk_ext [idx t]]
  refine (pieces9 (qkv m c t) (k0_pay4 (View.ld (iblk m c 6 t) r0_5)) (k0_pay5 (View.ld (iblk m c 7 t) r0_5)) (View.ld (iblk m c 5 t) r0_6)
    (ix2 y0 y1)).trans ?_
  refine headRow_eq m c t _ _ _ y0 _ _ _ (fun x => ?_) fun x => ?_
  · exact qkv_k m c t y0 _ _ (Nat.add_assoc _ _ _)
  · rw [whole_n]; exact blkKn m c t x

theorem final10 : (dats m 0 c).arrAt 10 cfg0.N = outV (aXl m c) (aXc m c) (aM m c) (aG m c) (aWv m c) := by
  refine (dats m 0 c).arrAt_eq_of_covers 10 _ (by decide +kernel) fun t hflush y => ?_
  have hN := pt_lt t
  blk_simp
  rw [after0_10]
  idx_vars y
  rw [show ((cfg0.win 10).blk t).view.emb (ix2 y0 y1) = ix2 (blkRow t y0) y1 by blk_ext [idx t]]
  exact (pieces10 (qkv m c t) (ix2 y0 y1)).trans (qkv_v m c t y0 _ y1 rfl)

end Cert.GqaIdeal.Value

end
-- ==== Proof.GqaRef.lean ====
/-
  The reference of the grouped-query projections read at an index.
-/
module

public import proofs.«01_k».proof.Proof.GqaProj
public import proofs.«01_k».proof.Proof.Gen.GqaReferenceIdeal.Run
public import proofs.«01_k».proof.Proof.Gen.GqaReferenceIdeal.Read

@[expose] public section

set_option maxRecDepth 200000

noncomputable section

open Idealize.ShloMosaic Idealize.ShloMosaic.TcCoe Idealize.SL.Sem

namespace Cert.GqaReferenceIdeal.Read

open Cert.GqaReferenceIdeal Cert.GqaReferenceIdeal.Gen Cert.Shared
open Cert.GqaIdeal.Value (hid proj rmsRow turned ang head outQ outK outV)

variable (x0 : FVec Ideal S2x4096x2048 .f32) (x1 : FVec Ideal S2x256x2048 .f32) (x2 : FVec Ideal S3x6x2048 .f32) (x3 : FVec Ideal S2048 .f32)
  (x4 : FVec Ideal S2048x2048 .f32) (x5 x6 : FVec Ideal S2048x512 .f32) (x7 x8 : FVec Ideal S128 .f32)

/-! ## The normed and modulated rows -/

/-- The row of a batch element's position. -/
abbrev latRow (b : Fin 2) (s : Fin 4096) : Fin 8704 := ⟨b.val * 4096 + s.val, by omega⟩

/-- The row of a batch element's context position. -/
abbrev ctxRow (b : Fin 2) (s : Fin 256) : Fin 8704 := ⟨8192 + b.val * 256 + s.val, by omega⟩

theorem row_lat (b : Fin 2) (s : Fin 4096) (d : Fin 2048) : rowAt x0 x1 (latRow b s) d = x0 (ix3 b s d) := by
  unfold rowAt
  rw [dif_pos (by show b.val * 4096 + s.val < 8192; omega)]
  exact congrArg₂ (fun p q => x0 (ix3 p q d)) (Fin.ext (by show (b.val * 4096 + s.val) / 4096 = b.val; omega))
    (Fin.ext (by show (b.val * 4096 + s.val) % 4096 = s.val; omega))

theorem row_ctx (b : Fin 2) (s : Fin 256) (d : Fin 2048) : rowAt x0 x1 (ctxRow b s) d = x1 (ix3 b s d) := by
  unfold rowAt
  rw [dif_neg (by show ¬8192 + b.val * 256 + s.val < 8192; omega)]
  exact congrArg₂ (fun p q => x1 (ix3 p q d)) (Fin.ext (by show (8192 + b.val * 256 + s.val - 8192) / 256 = b.val; omega))
    (Fin.ext (by show (8192 + b.val * 256 + s.val - 8192) % 256 = s.val; omega))

theorem mod_lat (k : Fin 6) (b : Fin 2) (s : Fin 4096) (d : Fin 2048) : modAt x2 k (latRow b s) d = x2 (ix3 ⟨b.val, by omega⟩ k d) :=
  congrArg (fun p => x2 (ix3 p k d)) (Fin.ext (by show (b.val * 4096 + s.val) / 4096 = b.val; omega))

theorem mod_ctx (k : Fin 6) (b : Fin 2) (s : Fin 256) (d : Fin 2048) : modAt x2 k (ctxRow b s) d = x2 (ix3 2 k d) :=
  congrArg (fun p => x2 (ix3 p k d)) (modIdx_ctx (by show ¬8192 + b.val * 256 + s.val < 8192; omega))

theorem lat_at (b : Fin 2) (s : Fin 4096) (d : Fin 2048) :
    val_main_v24 (F := Ideal) x0 x2 x3 (ix3 b s d) = hid x0 x1 x2 x3 (latRow b s) d := by
  unfold hid normMod
  simp only [row_lat, mod_lat]
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_cst_2, val_main_v19, val_main_v20, val_main_v21, val_main_v22, val_main_v23, val_main_v24]
  simp only [mul_assoc]

theorem ctx_at (b : Fin 2) (s : Fin 256) (d : Fin 2048) :
    val_main_v49 (F := Ideal) x1 x2 x3 (ix3 b s d) = hid x0 x1 x2 x3 (ctxRow b s) d := by
  unfold hid normMod
  simp only [row_ctx, mod_ctx]
  pointwise [val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_cst_6, val_main_v42, val_main_v43, val_main_v44, val_main_v45, val_main_v46, val_main_v47, val_main_v48, val_main_v49]
  simp only [mul_assoc]

theorem turned_ctx (N : Fin 128 → EReal) (b : Fin 2) (s : Fin 256) (d : Fin 128) : turned N (ctxRow b s) d = N d :=
  dif_neg (by show ¬8192 + b.val * 256 + s.val < 8192; omega)

/-! ## The normed heads -/

theorem q_lat (b : Fin 2) (s : Fin 4096) (h : Fin 16) (d : Fin 128) :
    val_main_v94 (F := Ideal) x0 x2 x3 x4 x7 (ix4 b s h d)
      = rmsRow (fun x => proj (hid x0 x1 x2 x3) x4 (latRow b s) ⟨h.val * 128 + x.val, by omega⟩) (fun x => x7 (ix1 x)) d := by
  unfold rmsRow proj
  simp only [← lat_at x0 x1 x2 x3]
  pointwise [val_main_v80, val_main_v81, val_main_v82, val_main_cst_12, val_main_v83, val_main_v84, val_main_cst_13, val_main_v85, val_main_v86, val_main_cst_14, val_main_v87, val_main_v88, val_main_v89, val_main_v90, val_main_v91, val_main_v92, val_main_v93, val_main_v94]

theorem k_lat (b : Fin 2) (s : Fin 4096) (h : Fin 4) (d : Fin 128) :
    val_main_v109 (F := Ideal) x0 x2 x3 x5 x8 (ix4 b s h d)
      = rmsRow (fun x => proj (hid x0 x1 x2 x3) x5 (latRow b s) ⟨h.val * 128 + x.val, by omega⟩) (fun x => x8 (ix1 x)) d := by
  unfold rmsRow proj
  simp only [← lat_at x0 x1 x2 x3]
  pointwise [val_main_v95, val_main_v96, val_main_v97, val_main_cst_15, val_main_v98, val_main_v99, val_main_cst_16, val_main_v100, val_main_v101, val_main_cst_17, val_main_v102, val_main_v103, val_main_v104, val_main_v105, val_main_v106, val_main_v107, val_main_v108, val_main_v109]

theorem q_ctx (b : Fin 2) (s : Fin 256) (h : Fin 16) (d : Fin 128) :
    val_main_v125 (F := Ideal) x1 x2 x3 x4 x7 (ix4 b s h d)
      = turned (rmsRow (fun x => proj (hid x0 x1 x2 x3) x4 (ctxRow b s) ⟨h.val * 128 + x.val, by omega⟩) (fun x => x7 (ix1 x))) (ctxRow b s) d := by
  rw [turned_ctx]
  unfold rmsRow proj
  simp only [← ctx_at x0 x1 x2 x3]
  pointwise [val_main_v111, val_main_v112, val_main_v113, val_main_cst_18, val_main_v114, val_main_v115, val_main_cst_19, val_main_v116, val_main_v117, val_main_cst_20, val_main_v118, val_main_v119, val_main_v120, val_main_v121, val_main_v122, val_main_v123, val_main_v124, val_main_v125]

theorem k_ctx (b : Fin 2) (s : Fin 256) (h : Fin 4) (d : Fin 128) :
    val_main_v140 (F := Ideal) x1 x2 x3 x5 x8 (ix4 b s h d)
      = turned (rmsRow (fun x => proj (hid x0 x1 x2 x3) x5 (ctxRow b s) ⟨h.val * 128 + x.val, by omega⟩) (fun x => x8 (ix1 x))) (ctxRow b s) d := by
  rw [turned_ctx]
  unfold rmsRow proj
  simp only [← ctx_at x0 x1 x2 x3]
  pointwise [val_main_v126, val_main_v127, val_main_v128, val_main_cst_21, val_main_v129, val_main_v130, val_main_cst_22, val_main_v131, val_main_v132, val_main_cst_23, val_main_v133, val_main_v134, val_main_v135, val_main_v136, val_main_v137, val_main_v138, val_main_v139, val_main_v140]

/-! ## The rotary embedding -/

theorem turned_lat (N : Fin 128 → EReal) (b : Fin 2) (s : Fin 4096) (d : Fin 128) : turned N (latRow b s) d
    = if _h : d.val % 2 < 1 then N ⟨d.val / 2 * 2, by omega⟩ * Ideal.cos (ang (ix2 s ⟨d.val / 2, by omega⟩))
        - N ⟨d.val / 2 * 2 + 1, by omega⟩ * Ideal.sin (ang (ix2 s ⟨d.val / 2, by omega⟩))
      else N ⟨d.val / 2 * 2, by omega⟩ * Ideal.sin (ang (ix2 s ⟨d.val / 2, by omega⟩))
        + N ⟨d.val / 2 * 2 + 1, by omega⟩ * Ideal.cos (ang (ix2 s ⟨d.val / 2, by omega⟩)) := by
  unfold turned
  rw [dif_pos (by show b.val * 4096 + s.val < 8192; omega)]
  have es : (⟨(latRow b s).val % 4096, by omega⟩ : Fin 4096) = s := Fin.ext (by show (b.val * 4096 + s.val) % 4096 = s.val; omega)
  rw [es]
  by_cases h : d.val % 2 = 0
  · have e0 : (⟨d.val / 2 * 2, by omega⟩ : Fin 128) = d := Fin.ext (by show d.val / 2 * 2 = d.val; omega)
    have e1 : (⟨d.val / 2 * 2 + 1, by omega⟩ : Fin 128) = ⟨(d.val + 1) % 128, by omega⟩ := Fin.ext (by show d.val / 2 * 2 + 1 = (d.val + 1) % 128; omega)
    rw [if_pos h, dif_pos (by omega), e0, e1]
  · have e0 : (⟨d.val / 2 * 2, by omega⟩ : Fin 128) = ⟨(d.val + 127) % 128, by omega⟩ := Fin.ext (by show d.val / 2 * 2 = (d.val + 127) % 128; omega)
    have e1 : (⟨d.val / 2 * 2 + 1, by omega⟩ : Fin 128) = d := Fin.ext (by show d.val / 2 * 2 + 1 = d.val; omega)
    rw [if_neg h, dif_neg (by omega), e0, e1]

theorem rope_q (b : Fin 2) (s : Fin 4096) (h : Fin 16) (d : Fin 128) : val_main_v160 (F := Ideal) x0 x2 x3 x4 x7 (ix4 b s h d)
    = turned (fun x => val_main_v94 (F := Ideal) x0 x2 x3 x4 x7 (ix4 b s h x)) (latRow b s) d := by
  rw [turned_lat]
  pointwise [val_main_v76, val_main_v77, val_main_v78, val_main_v79, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160]
  rfl

theorem rope_k (b : Fin 2) (s : Fin 4096) (h : Fin 4) (d : Fin 128) : val_main_v184 (F := Ideal) x0 x2 x3 x5 x8 (ix4 b s h d)
    = turned (fun x => val_main_v109 (F := Ideal) x0 x2 x3 x5 x8 (ix4 b s h x)) (latRow b s) d := by
  rw [turned_lat]
  pointwise [val_main_v76, val_main_v77, val_main_v78, val_main_v79, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184]
  rfl

/-! ## The results -/

theorem row_split (R : Fin 8704) (h : R.val < 8192) : latRow ⟨R.val / 4096, by omega⟩ ⟨R.val % 4096, by omega⟩ = R :=
  Fin.ext (by show R.val / 4096 * 4096 + R.val % 4096 = R.val; omega)

theorem row_split_ctx (R : Fin 8704) (h : ¬R.val < 8192) : ctxRow ⟨(R.val - 8192) / 256, by omega⟩ ⟨(R.val - 8192) % 256, by omega⟩ = R :=
  Fin.ext (by show 8192 + (R.val - 8192) / 256 * 256 + (R.val - 8192) % 256 = R.val; omega)

/-- The queries are the named function of the arguments. -/
theorem value_q : val_main_v192 (F := Ideal) x0 x1 x2 x3 x4 x7 = outQ x0 x1 x2 x3 x4 x7 := by
  funext i
  idx_vars i
  pointwise [val_main_v161, val_main_v162, val_main_v163, val_main_v164, val_main_v165, val_main_cst_24, val_main_v190, val_main_v191, val_main_v192]
  unfold outQ head
  by_cases h : i0.val < 8192
  · simp only [dif_pos h, rope_q, q_lat x0 x1, row_split i0 h]
    rfl
  · simp only [dif_neg h, q_ctx x0 x1, row_split_ctx i0 h]
    rfl

/-- The keys are the named function of the arguments. -/
theorem value_k : val_main_v193 (F := Ideal) x0 x1 x2 x3 x5 x8 = outK x0 x1 x2 x3 x5 x8 := by
  funext i
  idx_vars i
  pointwise [val_main_v185, val_main_v186, val_main_v187, val_main_v188, val_main_v189, val_main_v193]
  unfold outK head
  by_cases h : i0.val < 8192
  · simp only [dif_pos h, rope_k, k_lat x0 x1, row_split i0 h]
    rfl
  · simp only [dif_neg h, k_ctx x0 x1, row_split_ctx i0 h]
    rfl

/-- The values are the named function of the arguments. -/
theorem value_v : val_main_v197 (F := Ideal) x0 x1 x2 x3 x6 = outV x0 x1 x2 x3 x6 := by
  funext i
  idx_vars i
  unfold outV proj
  pointwise [val_main_v110, val_main_v141, val_main_v194, val_main_v195, val_main_v196, val_main_v197]
  by_cases h : i0.val < 8192
  · simp only [dif_pos h, lat_at x0 x1, row_split i0 h]
  · simp only [dif_neg h, ctx_at x0 x1, row_split_ctx i0 h]

end Cert.GqaReferenceIdeal.Read

end
-- ==== Proof.ModProj.lean ====
/-
  The value of the modulation vectors' call.
-/
module

public import proofs.«01_k».proof.Defs
public import proofs.«01_k».proof.Proof.Shared
public import proofs.«01_k».proof.Proof.Gen.ModIdeal.Value

@[expose] public section

set_option maxRecDepth 16384

noncomputable section

open Idealize.ShloMosaic Idealize.ShloMosaic.TcCoe Idealize.SL.Sem
open Idealize.ShloMosaic.Pipeline (Dat)

namespace Cert.ModIdeal.Value

open Cert.ModIdeal Cert.ModIdeal.Gen Cert.Shared

variable (m : (ℓ : Loc nD τ sig) → Buf (Elt Ideal) ℓ) (c : Dev nD)

abbrev aC : FVec Ideal S8x2048 .f32 := m ((c : Thread nD τ).loc main_arg0)
abbrev aW : FVec Ideal S4x2048x12288 .f32 := m ((c : Thread nD τ).loc main_arg1)
abbrev aB : FVec Ideal S4x12288 .f32 := m ((c : Thread nD τ).loc main_arg2)

theorem pt_lt (t : Fin cfg0.N) : t.val < 48 := lt_of_lt_of_eq t.isLt N_0

/-- The point's layer: twelve points to a layer. -/
abbrev layer (t : Fin cfg0.N) : Fin 4 := ⟨t.val / 12, by have := pt_lt t; omega⟩

/-- Column `e` of the point's block of 1024 columns. -/
abbrev col (t : Fin cfg0.N) (e : Fin 1024) : Fin 12288 := ⟨t.val % 12 * 1024 + e.val, by omega⟩

/-- The windows' block indices at every grid point. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- Layer `l`'s modulation of conditioning row `r`: the gated row through the layer's weights, plus its bias. -/
def vec (C : FVec Ideal S8x2048 .f32) (W : FVec Ideal S4x2048x12288 .f32) (B : FVec Ideal S4x12288 .f32) (l : Fin 4) (r : Fin 8)
    (n : Fin 12288) : EReal :=
  (∑ j : Fin 2048, silu (C (ix2 r j)) * W (ix3 l j n)) + B (ix2 l n)

def out (C : FVec Ideal S8x2048 .f32) (W : FVec Ideal S4x2048x12288 .f32) (B : FVec Ideal S4x12288 .f32) : FVec Ideal S4x8x12288 .f32 :=
  fun i => vec C W B (i 0) (i 1) (i 2)

theorem blkC (t : Fin cfg0.N) (r : Fin 8) (j : Fin 2048) : iblk m c 0 t (ix2 r j) = aC m c (ix2 r j) := by
  blk_ext [iblk, V, idx t]

theorem blkW (t : Fin cfg0.N) (j : Fin 2048) (e : Fin 1024) : iblk m c 1 t (ix3 0 j e) = aW m c (ix3 (layer t) j (col t e)) := by
  have hN := pt_lt t
  blk_ext [iblk, V, idx t]

theorem rowB (l : Fin 4) (n : Fin 12288) : V m c main_v0 (ix3 l 0 n) = aB m c (ix2 l n) := by
  entry_read
  pointwise

theorem blkB (t : Fin cfg0.N) (e : Fin 1024) : iblk m c 2 t (ix3 0 0 e) = aB m c (ix2 (layer t) (col t e)) := by
  have hN := pt_lt t
  rw [← rowB]
  blk_ext [iblk, idx t]

theorem res (t : Fin cfg0.N) (r : Fin 8) (e : Fin 1024) :
    k0_pay1 (iblk m c 0 t) (iblk m c 1 t) (iblk m c 2 t) (ix3 0 r e) = vec (aC m c) (aW m c) (aB m c) (layer t) r (col t e) := by
  pointwise [k0_pay1, vec, silu]
  rw [blkB]
  refine congrArg (· + _) (Finset.sum_congr rfl fun j _ => ?_)
  rw [blkC, blkW]

theorem final : (dats m 0 c).arrAt 3 cfg0.N = out (aC m c) (aW m c) (aB m c) := by
  refine (dats m 0 c).arrAt_eq_of_covers 3 _ (by decide +kernel) fun t hflush y => ?_
  have hN := pt_lt t
  blk_simp
  rw [after0_3]
  frame_out
  idx_vars y
  rw [show ((cfg0.win 3).blk t).view.emb (ix3 y0 y1 y2) = ix3 (layer t) y1 (col t y2) by blk_ext [idx t]]
  obtain rfl : y0 = 0 := Subsingleton.elim _ _
  exact res m c t y1 y2

end Cert.ModIdeal.Value

end
-- ==== Proof.ModRef.lean ====
/-
  The reference of the modulation vectors read at an index.
-/
module

public import proofs.«01_k».proof.Proof.ModProj
public import proofs.«01_k».proof.Proof.Gen.ModReferenceIdeal.Run
public import proofs.«01_k».proof.Proof.Gen.ModReferenceIdeal.Read

@[expose] public section

set_option maxRecDepth 16384

noncomputable section

open Idealize.ShloMosaic Idealize.ShloMosaic.TcCoe Idealize.SL.Sem

namespace Cert.ModReferenceIdeal.Read

open Cert.ModReferenceIdeal Cert.ModReferenceIdeal.Gen Cert.Shared

/-- The reference's result is the named function of its arguments. -/
theorem value (x0 : FVec Ideal S8x2048 .f32) (x1 : FVec Ideal S4x2048x12288 .f32) (x2 : FVec Ideal S4x12288 .f32) :
    val_main_v5 (F := Ideal) x0 x1 x2 = Cert.ModIdeal.Value.out x0 x1 x2 := by
  funext i
  idx_vars i
  unfold Cert.ModIdeal.Value.out Cert.ModIdeal.Value.vec
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5]
  simp only [silu_eq]
  exact congrArg (· + _) (Finset.sum_congr rfl fun j _ => mul_comm _ _)

end Cert.ModReferenceIdeal.Read

end
-- ==== Proof.lean ====
/-
  The proof of `Cert.Claim`: for each call the frames of its three programs, that the idealized kernel is the kernel, and
  that the idealized kernel and the idealized reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Nat
public import proofs.«01_k».proof.Proof.Gen.Nat.Skeleton
public import proofs.«01_k».proof.Proof.Gen.Nat.Launch
public import proofs.«01_k».proof.Proof.Gen.Nat.Points
public import proofs.«01_k».proof.Proof.Gen.Nat.Frame
public import proofs.«01_k».proof.Proof.Gen.NatIdeal
public import proofs.«01_k».proof.Proof.Gen.NatIdeal.Skeleton
public import proofs.«01_k».proof.Proof.Gen.NatIdeal.Launch
public import proofs.«01_k».proof.Proof.Gen.NatIdeal.Points
public import proofs.«01_k».proof.Proof.Gen.NatIdeal.Frame
public import proofs.«01_k».proof.Proof.Gen.NatIdeal.Value
public import proofs.«01_k».proof.Proof.Gen.NatReferenceIdeal
public import proofs.«01_k».proof.Proof.Gen.NatReferenceIdeal.Run
public import proofs.«01_k».proof.Proof.Gen.NatReferenceIdeal.Read
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaReferenceIdeal
public import proofs.«01_k».proof.Proof.Gen.GqaReferenceIdeal.Run
public import proofs.«01_k».proof.Proof.Gen.GqaReferenceIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.FirstReferenceIdeal.Read
public import proofs.«01_k».proof.Proof.PreFacts
public import proofs.«01_k».proof.Proof.FfnLast
public import proofs.«01_k».proof.Proof.FfnLastRef
public import proofs.«01_k».proof.Proof.FfnMid
public import proofs.«01_k».proof.Proof.FfnMidRef
public import proofs.«01_k».proof.Proof.FfnFirst
public import proofs.«01_k».proof.Proof.FfnFirstRef
public import proofs.«01_k».proof.Proof.OutProj
public import proofs.«01_k».proof.Proof.OutRef
public import proofs.«01_k».proof.Proof.NatProj
public import proofs.«01_k».proof.Proof.NatRef
public import proofs.«01_k».proof.Proof.GqaProj
public import proofs.«01_k».proof.Proof.GqaRef
public import proofs.«01_k».proof.Proof.ModProj
public import proofs.«01_k».proof.Proof.ModRef
public import Idealize.ShloMosaic.Adequacy
public import Idealize.ShloMosaic.Init

@[expose] public section

noncomputable section

namespace Cert.Proof

open Idealize.ShloMosaic Idealize.SL.Sem

/-! ## The last feed-forward layer -/

/-- Kernel and reference end with the array `out` of the shared arguments. -/
theorem ffn : Cert.algebraic_KernelIdeal_ReferenceIdeal_pre_finite := by
  intro m ρ m' ρ' hpre hag
  refine ⟨_, (θ_run Cert.KernelIdeal.defs _ _).mono
      (fun r h c => ⟨(h c).1.trans (Cert.KernelIdeal.Value.final (Cert.KernelIdeal.Value.finite_of_pre (hpre c))), (h c).2⟩)
      (Cert.KernelIdeal.Value.run_blocks m ρ),
    (θ_run Cert.ReferenceIdeal.defs _ _).mono (fun r h c => ⟨(h c).1.trans ?_, (h c).2⟩) (Cert.ReferenceIdeal.Value.run m' ρ')⟩
  obtain ⟨e0, e1, e2, e3, e4, e5, e6⟩ := hag c
  rw [Cert.ReferenceIdeal.Read.val_main_v30_eq, Cert.ReferenceIdeal.Read.value, e0, e1, e2, e3, e4, e5, e6]

/-- The reference's frame: it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-! ## The inner feed-forward layer -/

/-- Kernel and reference end with the rows `out` of the shared arguments. -/
theorem mid : Cert.algebraic_MidIdeal_MidReferenceIdeal_pre_finite_mid := by
  intro m ρ m' ρ' hpre hag
  refine ⟨_, (θ_run Cert.MidIdeal.defs _ _).mono
      (fun r h c => ⟨(h c).1.trans (Cert.MidIdeal.Value.final (Cert.MidIdeal.Value.finite_of_pre (hpre c))), (h c).2⟩)
      (Cert.MidIdeal.Value.run_blocks m ρ),
    (θ_run Cert.MidReferenceIdeal.defs _ _).mono (fun r h c => ⟨(h c).1.trans ?_, (h c).2⟩) (Cert.MidReferenceIdeal.Value.run m' ρ')⟩
  obtain ⟨e0, e1, e2, e3, e4, e5, e6, e7, e8⟩ := hag c
  rw [Cert.MidReferenceIdeal.Read.val_main_v36_eq, Cert.MidReferenceIdeal.Read.value, e0, e1, e2, e3, e4, e5, e6, e7]

theorem mid_reference_frame : Cert.quiescent_MidReferenceIdeal := fun m ρ _ =>
  (θ_run Cert.MidReferenceIdeal.defs _ _).mono
    (fun r h => ⟨fun c => (h c).2, sem_eq_zero_of_no_sems (by decide) r.2⟩) (Cert.MidReferenceIdeal.Value.run m ρ)

/-! ## The attention's output projection -/

/-- Kernel and reference end with the rows `resid` and `normed` of the shared arguments. -/
theorem outp : Cert.algebraic_OutIdeal_OutReferenceIdeal := by
  intro m ρ m' ρ' _ hag
  refine ⟨_, _, (θ_run Cert.OutIdeal.defs _ _).mono
      (fun r h c => ⟨(h c).1.trans (Cert.OutIdeal.Value.final6 m c), (h c).2.1.trans (Cert.OutIdeal.Value.final7 m c), (h c).2.2⟩)
      (Cert.OutIdeal.Value.run_blocks m ρ),
    (θ_run Cert.OutReferenceIdeal.defs _ _).mono (fun r h c => ⟨(h c).1.trans ?_, (h c).2.1.trans ?_, (h c).2.2⟩)
      (Cert.OutReferenceIdeal.Value.run m' ρ')⟩
  · obtain ⟨e0, e1, e2, e3, e4, e5, e6⟩ := hag c
    rw [Cert.OutReferenceIdeal.Read.val_main_v66_eq, Cert.OutReferenceIdeal.Read.value_y, e0, e1, e2, e3, e4, e5]
  · obtain ⟨e0, e1, e2, e3, e4, e5, e6⟩ := hag c
    rw [Cert.OutReferenceIdeal.Read.val_main_v70_eq, Cert.OutReferenceIdeal.Read.value_h, e0, e1, e2, e3, e4, e5, e6]

theorem outp_reference_frame : Cert.quiescent_OutReferenceIdeal := fun m ρ _ =>
  (θ_run Cert.OutReferenceIdeal.defs _ _).mono
    (fun r h => ⟨fun c => (h c).2.2, sem_eq_zero_of_no_sems (by decide) r.2⟩) (Cert.OutReferenceIdeal.Value.run m ρ)

/-! ## The neighbourhood attention's projections -/

/-- Kernel and reference end with the stacked projections `out` of the shared arguments. -/
theorem nat : Cert.algebraic_NatIdeal_NatReferenceIdeal := by
  intro m ρ m' ρ' _ hag
  refine ⟨_, (θ_run Cert.NatIdeal.defs _ _).mono (fun r h c => ⟨(h c).1.trans (Cert.NatIdeal.Value.final m c), (h c).2⟩)
      (Cert.NatIdeal.Value.run_blocks m ρ),
    (θ_run Cert.NatReferenceIdeal.defs _ _).mono (fun r h c => ⟨(h c).1.trans ?_, (h c).2⟩) (Cert.NatReferenceIdeal.Value.run m' ρ')⟩
  obtain ⟨e0, e1, e2, e3, e4, e5, e6⟩ := hag c
  rw [Cert.NatReferenceIdeal.Read.val_main_v71_eq, Cert.NatReferenceIdeal.Read.value, e0, e1, e2, e3, e4, e5, e6]

theorem nat_reference_frame : Cert.quiescent_NatReferenceIdeal := fun m ρ _ =>
  (θ_run Cert.NatReferenceIdeal.defs _ _).mono
    (fun r h => ⟨fun c => (h c).2, sem_eq_zero_of_no_sems (by decide) r.2⟩) (Cert.NatReferenceIdeal.Value.run m ρ)

/-! ## The grouped-query attention's projections -/

/-- Kernel and reference end with the queries, keys and values of the shared arguments. -/
theorem gqa : Cert.algebraic_GqaIdeal_GqaReferenceIdeal := by
  intro m ρ m' ρ' _ hag
  refine ⟨_, _, _, (θ_run Cert.GqaIdeal.defs _ _).mono
      (fun r h c => ⟨(h c).1.trans (Cert.GqaIdeal.Value.final8 m c), (h c).2.1.trans (Cert.GqaIdeal.Value.final9 m c),
        (h c).2.2.1.trans (Cert.GqaIdeal.Value.final10 m c), (h c).2.2.2⟩)
      (Cert.GqaIdeal.Value.run_blocks m ρ),
    (θ_run Cert.GqaReferenceIdeal.defs _ _).mono
      (fun r h c => ⟨(h c).1.trans ?_, (h c).2.1.trans ?_, (h c).2.2.1.trans ?_, (h c).2.2.2⟩)
      (Cert.GqaReferenceIdeal.Value.run m' ρ')⟩
  · obtain ⟨e0, e1, e2, e3, e4, e5, e6, e7, e8⟩ := hag c
    rw [Cert.GqaReferenceIdeal.Read.val_main_v192_eq, Cert.GqaReferenceIdeal.Read.value_q]
    show Cert.GqaIdeal.Value.outQ (m' ((c.tc : Thread _ _).loc Cert.GqaReferenceIdeal.main_arg0)) (m' ((c.tc : Thread _ _).loc Cert.GqaReferenceIdeal.main_arg1)) (m' ((c.tc : Thread _ _).loc Cert.GqaReferenceIdeal.main_arg2)) (m' ((c.tc : Thread _ _).loc Cert.GqaReferenceIdeal.main_arg3)) (m' ((c.tc : Thread _ _).loc Cert.GqaReferenceIdeal.main_arg4)) (m' ((c.tc : Thread _ _).loc Cert.GqaReferenceIdeal.main_arg7)) = _
    rw [e0, e1, e2, e3, e4, e7]
  · obtain ⟨e0, e1, e2, e3, e4, e5, e6, e7, e8⟩ := hag c
    rw [Cert.GqaReferenceIdeal.Read.val_main_v193_eq, Cert.GqaReferenceIdeal.Read.value_k]
    show Cert.GqaIdeal.Value.outK (m' ((c.tc : Thread _ _).loc Cert.GqaReferenceIdeal.main_arg0)) (m' ((c.tc : Thread _ _).loc Cert.GqaReferenceIdeal.main_arg1)) (m' ((c.tc : Thread _ _).loc Cert.GqaReferenceIdeal.main_arg2)) (m' ((c.tc : Thread _ _).loc Cert.GqaReferenceIdeal.main_arg3)) (m' ((c.tc : Thread _ _).loc Cert.GqaReferenceIdeal.main_arg5)) (m' ((c.tc : Thread _ _).loc Cert.GqaReferenceIdeal.main_arg8)) = _
    rw [e0, e1, e2, e3, e5, e8]
  · obtain ⟨e0, e1, e2, e3, e4, e5, e6, e7, e8⟩ := hag c
    rw [Cert.GqaReferenceIdeal.Read.val_main_v197_eq, Cert.GqaReferenceIdeal.Read.value_v]
    show Cert.GqaIdeal.Value.outV (m' ((c.tc : Thread _ _).loc Cert.GqaReferenceIdeal.main_arg0)) (m' ((c.tc : Thread _ _).loc Cert.GqaReferenceIdeal.main_arg1)) (m' ((c.tc : Thread _ _).loc Cert.GqaReferenceIdeal.main_arg2)) (m' ((c.tc : Thread _ _).loc Cert.GqaReferenceIdeal.main_arg3)) (m' ((c.tc : Thread _ _).loc Cert.GqaReferenceIdeal.main_arg6)) = _
    rw [e0, e1, e2, e3, e6]

theorem gqa_reference_frame : Cert.quiescent_GqaReferenceIdeal := fun m ρ _ =>
  (θ_run Cert.GqaReferenceIdeal.defs _ _).mono
    (fun r h => ⟨fun c => (h c).2.2.2, sem_eq_zero_of_no_sems (by decide) r.2⟩) (Cert.GqaReferenceIdeal.Value.run m ρ)

/-! ## The modulation vectors -/

/-- Kernel and reference end with the modulation rows `out` of the shared arguments. -/
theorem modu : Cert.algebraic_ModIdeal_ModReferenceIdeal := by
  intro m ρ m' ρ' _ hag
  refine ⟨_, (θ_run Cert.ModIdeal.defs _ _).mono
      (fun r h c => ⟨(h c).1.trans (Cert.ModIdeal.Value.final m c), (h c).2⟩)
      (Cert.ModIdeal.Value.run_blocks m ρ),
    (θ_run Cert.ModReferenceIdeal.defs _ _).mono (fun r h c => ⟨(h c).1.trans ?_, (h c).2⟩) (Cert.ModReferenceIdeal.Value.run m' ρ')⟩
  obtain ⟨e0, e1, e2⟩ := hag c
  rw [Cert.ModReferenceIdeal.Read.val_main_v5_eq, Cert.ModReferenceIdeal.Read.value, e0, e1, e2]

theorem modu_reference_frame : Cert.quiescent_ModReferenceIdeal := fun m ρ _ =>
  (θ_run Cert.ModReferenceIdeal.defs _ _).mono
    (fun r h => ⟨fun c => (h c).2, sem_eq_zero_of_no_sems (by decide) r.2⟩) (Cert.ModReferenceIdeal.Value.run m ρ)

/-! ## The first feed-forward layer -/

/-- Kernel and reference end with the rows `out` and the weights `side`, `plain` and `stack` of the shared arguments. -/
theorem first : Cert.algebraic_FirstIdeal_FirstReferenceIdeal_pre_finite_first := by
  intro m ρ m' ρ' hpre hag
  refine ⟨_, _, _, _, _, (θ_run Cert.FirstIdeal.defs _ _).mono
      (fun r h c => ⟨(h c).1.trans (Cert.FirstIdeal.Value.final (Cert.FirstIdeal.Value.finite_of_pre (hpre c))),
        (h c).2.1.trans (Cert.FirstIdeal.Value.final16 m c), (h c).2.2.1.trans (Cert.FirstIdeal.Value.final17 m c),
        (h c).2.2.2.1.trans (Cert.FirstIdeal.Value.final18 m c), (h c).2.2.2.2.1.trans (Cert.FirstIdeal.Value.final19 m c), (h c).2.2.2.2.2⟩)
      (Cert.FirstIdeal.Value.run_blocks m ρ),
    (θ_run Cert.FirstReferenceIdeal.defs _ _).mono
      (fun r h c => ⟨(h c).1.trans ?_, (h c).2.1.trans ?_, (h c).2.2.1.trans ?_, (h c).2.2.2.1.trans ?_, (h c).2.2.2.2.1.trans ?_,
        (h c).2.2.2.2.2⟩) (Cert.FirstReferenceIdeal.Value.run m' ρ')⟩
  · obtain ⟨e0, e1, e2, e3, e4, e5, e6, e7, e8, e9, e10, e11, e12, e13, e14, e15, e16⟩ := hag c
    rw [Cert.FirstReferenceIdeal.Read.val_main_v36_eq, Cert.FirstReferenceIdeal.Read.value]
    show Cert.FirstIdeal.Value.out (m' ((c.tc : Thread _ _).loc Cert.FirstReferenceIdeal.main_arg0)) (m' ((c.tc : Thread _ _).loc Cert.FirstReferenceIdeal.main_arg1)) (m' ((c.tc : Thread _ _).loc Cert.FirstReferenceIdeal.main_arg2)) (m' ((c.tc : Thread _ _).loc Cert.FirstReferenceIdeal.main_arg3)) (m' ((c.tc : Thread _ _).loc Cert.FirstReferenceIdeal.main_arg4)) (m' ((c.tc : Thread _ _).loc Cert.FirstReferenceIdeal.main_arg5)) (m' ((c.tc : Thread _ _).loc Cert.FirstReferenceIdeal.main_arg6)) (m' ((c.tc : Thread _ _).loc Cert.FirstReferenceIdeal.main_arg7)) = _
    rw [e0, e1, e2, e3, e4, e5, e6, e7]
  · obtain ⟨e0, e1, e2, e3, e4, e5, e6, e7, e8, e9, e10, e11, e12, e13, e14, e15, e16⟩ := hag c
    rw [Cert.FirstReferenceIdeal.Read.val_main_v41_eq, Cert.FirstReferenceIdeal.Read.value_side]
    show Cert.FirstIdeal.Value.side (m' ((c.tc : Thread _ _).loc Cert.FirstReferenceIdeal.main_arg9)) (m' ((c.tc : Thread _ _).loc Cert.FirstReferenceIdeal.main_arg10)) (m' ((c.tc : Thread _ _).loc Cert.FirstReferenceIdeal.main_arg11)) = _
    rw [e9, e10, e11]
  · obtain ⟨e0, e1, e2, e3, e4, e5, e6, e7, e8, e9, e10, e11, e12, e13, e14, e15, e16⟩ := hag c
    rw [Cert.FirstReferenceIdeal.Read.val_main_v43_eq, Cert.FirstReferenceIdeal.Read.value_gqa_out]
    show Cert.FirstIdeal.Value.plain (m' ((c.tc : Thread _ _).loc Cert.FirstReferenceIdeal.main_arg12)) = _
    rw [e12]
  · obtain ⟨e0, e1, e2, e3, e4, e5, e6, e7, e8, e9, e10, e11, e12, e13, e14, e15, e16⟩ := hag c
    rw [Cert.FirstReferenceIdeal.Read.val_main_v51_eq, Cert.FirstReferenceIdeal.Read.value_stack]
    show Cert.FirstIdeal.Value.stack (m' ((c.tc : Thread _ _).loc Cert.FirstReferenceIdeal.main_arg13)) (m' ((c.tc : Thread _ _).loc Cert.FirstReferenceIdeal.main_arg14)) (m' ((c.tc : Thread _ _).loc Cert.FirstReferenceIdeal.main_arg15)) = _
    rw [e13, e14, e15]
  · obtain ⟨e0, e1, e2, e3, e4, e5, e6, e7, e8, e9, e10, e11, e12, e13, e14, e15, e16⟩ := hag c
    rw [Cert.FirstReferenceIdeal.Read.val_main_v53_eq, Cert.FirstReferenceIdeal.Read.value_nat_out]
    show Cert.FirstIdeal.Value.plain (m' ((c.tc : Thread _ _).loc Cert.FirstReferenceIdeal.main_arg16)) = _
    rw [e16]

theorem first_reference_frame : Cert.quiescent_FirstReferenceIdeal := fun m ρ _ =>
  (θ_run Cert.FirstReferenceIdeal.defs _ _).mono
    (fun r h => ⟨fun c => (h c).2.2.2.2.2, sem_eq_zero_of_no_sems (by decide) r.2⟩) (Cert.FirstReferenceIdeal.Value.run m ρ)

theorem claim : Cert.Claim :=
  ⟨Cert.Kernel.Gen.facts, Cert.KernelIdeal.Gen.facts, Cert.ReferenceIdeal.Gen.facts,
    Cert.Mid.Gen.facts, Cert.MidIdeal.Gen.facts, Cert.MidReferenceIdeal.Gen.facts,
    Cert.Out.Gen.facts, Cert.OutIdeal.Gen.facts, Cert.OutReferenceIdeal.Gen.facts,
    Cert.Nat.Gen.facts, Cert.NatIdeal.Gen.facts, Cert.NatReferenceIdeal.Gen.facts,
    Cert.Gqa.Gen.facts, Cert.GqaIdeal.Gen.facts, Cert.GqaReferenceIdeal.Gen.facts,
    Cert.Mod.Gen.facts, Cert.ModIdeal.Gen.facts, Cert.ModReferenceIdeal.Gen.facts,
    Cert.First.Gen.facts, Cert.FirstIdeal.Gen.facts, Cert.FirstReferenceIdeal.Gen.facts,
    Cert.Pre_finite.Shown.facts, Cert.Pre_finite_mid.Shown.facts, Cert.Pre_finite_first.Shown.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Mid.Gen.frame m ρ,
    fun m ρ _ => Cert.MidIdeal.Gen.frame m ρ,
    fun m ρ _ => Cert.MidIdeal.Gen.frame m ρ,
    mid_reference_frame,
    fun m ρ _ => mid_reference_frame m ρ trivial,
    fun m ρ _ => Cert.Out.Gen.frame m ρ,
    fun m ρ _ => Cert.OutIdeal.Gen.frame m ρ,
    outp_reference_frame,
    fun m ρ _ => Cert.Nat.Gen.frame m ρ,
    fun m ρ _ => Cert.NatIdeal.Gen.frame m ρ,
    nat_reference_frame,
    fun m ρ _ => Cert.Gqa.Gen.frame m ρ,
    fun m ρ _ => Cert.GqaIdeal.Gen.frame m ρ,
    gqa_reference_frame,
    fun m ρ _ => Cert.Mod.Gen.frame m ρ,
    fun m ρ _ => Cert.ModIdeal.Gen.frame m ρ,
    modu_reference_frame,
    fun m ρ _ => Cert.First.Gen.frame m ρ,
    fun m ρ _ => Cert.FirstIdeal.Gen.frame m ρ,
    fun m ρ _ => Cert.FirstIdeal.Gen.frame m ρ,
    first_reference_frame,
    fun m ρ _ => first_reference_frame m ρ trivial,
    trivial, ffn, trivial, mid, trivial, outp, trivial, nat, trivial, gqa, trivial, modu, trivial, first⟩

end Cert.Proof

end
